-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16384x2048 : Shape := ⟨2, ![16384, 2048]⟩
abbrev S16x2048 : Shape := ⟨2, ![16, 2048]⟩
abbrev S16 : Shape := ⟨1, ![16]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S16x2048 : S_.BroadcastsInDim S16x2048 (![] : Fin 0 → Fin S16x2048.rank)
  reducesTo_S16x2048_S_d0_1 : S16x2048.ReducesTo [0, 1] S_
  bcast_S_S16 : S_.BroadcastsInDim S16 (![] : Fin 0 → Fin S16.rank)
  reducesTo_S16_S_d0 : S16.ReducesTo [0] S_

variable [Facts]

def fn {F : FTy → Type} [FloatOps F] (main_arg0 : FVec F S16384x2048 .f32) (main_arg1 : FVec F S16x2048 .f32) (main_arg2 : FVec F S16 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S16x2048 .f32 := Host.absf main_arg1
  let main_cst_0 : FVec F S_ .f32 := constant S_ .f32 0x7F800000#32
  let main_v5 : FVec F S16x2048 .f32 := broadcastInDim S16x2048 ![] bcast_S_S16x2048 main_cst_0
  let main_v6 : IVec S16x2048 1 := cmpf .olt main_v4 main_v5
  let main_c_1 : IVec S_ 1 := constantI S_ 1 1#1
  let main_v7 : IVec S_ 1 := (fun x v => Host.reduce IntOp.andi x v reducesTo_S16x2048_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  main_v13
-- ==== Kernel.lean ====
abbrev S16384x2048 : Shape := ⟨2, ![16384, 2048]⟩
abbrev S16x2048 : Shape := ⟨2, ![16, 2048]⟩
abbrev S16 : Shape := ⟨1, ![16]⟩
abbrev S32x16x512 : Shape := ⟨3, ![32, 16, 512]⟩
abbrev S1024x2048 : Shape := ⟨2, ![1024, 2048]⟩
abbrev S2x16x512 : Shape := ⟨3, ![2, 16, 512]⟩
abbrev S16x1024 : Shape := ⟨2, ![16, 1024]⟩
abbrev S16x512 : Shape := ⟨2, ![16, 512]⟩
abbrev S1x16x512 : Shape := ⟨3, ![1, 16, 512]⟩
abbrev S16x16384 : Shape := ⟨2, ![16, 16384]⟩
abbrev S2x16384 : Shape := ⟨2, ![2, 16384]⟩
abbrev S2x512 : Shape := ⟨2, ![2, 512]⟩
abbrev S_ : Shape := ⟨0, ![]⟩
abbrev S1 : Shape := ⟨1, ![1]⟩
abbrev S1x16 : Shape := ⟨2, ![1, 16]⟩
abbrev S16384x16 : Shape := ⟨2, ![16384, 16]⟩
abbrev S16384x2 : Shape := ⟨2, ![16384, 2]⟩

abbrev nBuf : Table → Nat
  | .hbm => 8
  | .local .tc .vmem => 5
  | .local .scVector .vmem => 4
  | _ => 0

abbrev bufTy : (tb : Table) → Fin (nBuf tb) → BufTy
  | .hbm, ⟨0, _⟩ => ⟨S16384x2048, .f32⟩
  | .hbm, ⟨1, _⟩ => ⟨S16x2048, .f32⟩
  | .hbm, ⟨2, _⟩ => ⟨S16, .f32⟩
  | .hbm, ⟨3, _⟩ => ⟨S32x16x512, .f32⟩
  | .hbm, ⟨4, _⟩ => ⟨S16x16384, .f32⟩
  | .hbm, ⟨5, _⟩ => ⟨S2x16384, .i32⟩
  | .hbm, ⟨6, _⟩ => ⟨S16384x16, .f32⟩
  | .hbm, ⟨7, _⟩ => ⟨S16384x2, .i32⟩
  | .local .tc .vmem, ⟨0, _⟩ => ⟨S16x2048, .f32⟩
  | .local .tc .vmem, ⟨1, _⟩ => ⟨S1024x2048, .f32⟩
  | .local .tc .vmem, ⟨2, _⟩ => ⟨S1024x2048, .f32⟩
  | .local .tc .vmem, ⟨3, _⟩ => ⟨S2x16x512, .f32⟩
  | .local .tc .vmem, ⟨4, _⟩ => ⟨S2x16x512, .f32⟩
  | .local .scVector .vmem, ⟨0, _⟩ => ⟨S16x512, .f32⟩
  | .local .scVector .vmem, ⟨1, _⟩ => ⟨S16, .f32⟩
  | .local .scVector .vmem, ⟨2, _⟩ => ⟨S16x512, .f32⟩
  | .local .scVector .vmem, ⟨3, _⟩ => ⟨S2x512, .i32⟩
  | _, _ => ⟨S16384x2048, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => false
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev main_v0_scv : Ref sig .scVector := ⟨.hbm, 3, rfl⟩
abbrev main_arg2_scv : Ref sig .scVector := ⟨.hbm, 2, rfl⟩
abbrev main_v1_0_scv : Ref sig .scVector := ⟨.hbm, 4, rfl⟩
abbrev main_v1_1_scv : Ref sig .scVector := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 16], ![false, false]⟩

def k1_off1 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_5_r0 : BitVec 32 := 0#32
  let c0_i32_6_r0 : BitVec 32 := 0#32
  ![v1.toNat, 0, 0]
@[reducible] def k1_t1_loop : Scf.Loop 32 :=
  let c0_i32_3 : BitVec 32 := 0#32
  let c32_i32 : BitVec 32 := 32#32
  let v56 : BitVec 32 := Scalar.addi c0_i32_3 c32_i32
  let c1_i32 : BitVec 32 := 1#32
  ⟨c0_i32_3, v56, c1_i32⟩
def k1_off2 (k1_t1 : Fin k1_t1_loop.trips) : Fin 2 → Nat :=
  let c0_i32_5 : BitVec 32 := 0#32
  let v59 : Index := Scalar.indexCast c0_i32_5
  let c0_i32_3 : BitVec 32 := 0#32
  let c1_i32 : BitVec 32 := 1#32
  let arg10 : BitVec 32 := Scf.iv c0_i32_3 c1_i32 k1_t1
  let c16_i32 : BitVec 32 := 16#32
  let v58 : BitVec 32 := Scalar.muli arg10 c16_i32
  let v60 : Index := Scalar.indexCast v58
  ![0, v60.toNat]
def k1_off3 (k1_t1 : Fin k1_t1_loop.trips) : Fin 2 → Nat :=
  let c1_i32_6 : BitVec 32 := 1#32
  let v63 : Index := Scalar.indexCast c1_i32_6
  let c0_i32_3 : BitVec 32 := 0#32
  let c1_i32 : BitVec 32 := 1#32
  let arg10 : BitVec 32 := Scf.iv c0_i32_3 c1_i32 k1_t1
  let c16_i32 : BitVec 32 := 16#32
  let v58 : BitVec 32 := Scalar.muli arg10 c16_i32
  let v64 : Index := Scalar.indexCast v58
  ![1, v64.toNat]
def k1_off4 (k1_t1 : Fin k1_t1_loop.trips) : Fin 2 → Nat :=
  let c2_i32_11 : BitVec 32 := 2#32
  let v76 : Index := Scalar.indexCast c2_i32_11
  let c0_i32_3 : BitVec 32 := 0#32
  let c1_i32 : BitVec 32 := 1#32
  let arg10 : BitVec 32 := Scf.iv c0_i32_3 c1_i32 k1_t1
  let c16_i32 : BitVec 32 := 16#32
  let v58 : BitVec 32 := Scalar.muli arg10 c16_i32
  let v77 : Index := Scalar.indexCast v58
  ![2, v77.toNat]
def k1_off5 (k1_t1 : Fin k1_t1_loop.trips) : Fin 2 → Nat :=
  let c3_i32 : BitVec 32 := 3#32
  let v80 : Index := Scalar.indexCast c3_i32
  let c0_i32_3 : BitVec 32 := 0#32
  let c1_i32 : BitVec 32 := 1#32
  let arg10 : BitVec 32 := Scf.iv c0_i32_3 c1_i32 k1_t1
  let c16_i32 : BitVec 32 := 16#32
  let v58 : BitVec 32 := Scalar.muli arg10 c16_i32
  let v81 : Index := Scalar.indexCast v58
  ![3, v81.toNat]
def k1_off6 (k1_t1 : Fin k1_t1_loop.trips) : Fin 2 → Nat :=
  let c4_i32 : BitVec 32 := 4#32
  let v93 : Index := Scalar.indexCast c4_i32
  let c0_i32_3 : BitVec 32 := 0#32
  let c1_i32 : BitVec 32 := 1#32
  let arg10 : BitVec 32 := Scf.iv c0_i32_3 c1_i32 k1_t1
  let c16_i32 : BitVec 32 := 16#32
  let v58 : BitVec 32 := Scalar.muli arg10 c16_i32
  let v94 : Index := Scalar.indexCast v58
  ![4, v94.toNat]
def k1_off7 (k1_t1 : Fin k1_t1_loop.trips) : Fin 2 → Nat :=
  let c5_i32 : BitVec 32 := 5#32
  let v97 : Index := Scalar.indexCast c5_i32
  let c0_i32_3 : BitVec 32 := 0#32
  let c1_i32 : BitVec 32 := 1#32
  let arg10 : BitVec 32 := Scf.iv c0_i32_3 c1_i32 k1_t1
  let c16_i32 : BitVec 32 := 16#32
  let v58 : BitVec 32 := Scalar.muli arg10 c16_i32
  let v98 : Index := Scalar.indexCast v58
  ![5, v98.toNat]
def k1_off8 (k1_t1 : Fin k1_t1_loop.trips) : Fin 2 → Nat :=
  let c6_i32 : BitVec 32 := 6#32
  let v110 : Index := Scalar.indexCast c6_i32
  let c0_i32_3 : BitVec 32 := 0#32
  let c1_i32 : BitVec 32 := 1#32
  let arg10 : BitVec 32 := Scf.iv c0_i32_3 c1_i32 k1_t1
  let c16_i32 : BitVec 32 := 16#32
  let v58 : BitVec 32 := Scalar.muli arg10 c16_i32
  let v111 : Index := Scalar.indexCast v58
  ![6, v111.toNat]
def k1_off9 (k1_t1 : Fin k1_t1_loop.trips) : Fin 2 → Nat :=
  let c7_i32 : BitVec 32 := 7#32
  let v114 : Index := Scalar.indexCast c7_i32
  let c0_i32_3 : BitVec 32 := 0#32
  let c1_i32 : BitVec 32 := 1#32
  let arg10 : BitVec 32 := Scf.iv c0_i32_3 c1_i32 k1_t1
  let c16_i32 : BitVec 32 := 16#32
  let v58 : BitVec 32 := Scalar.muli arg10 c16_i32
  let v115 : Index := Scalar.indexCast v58
  ![7, v115.toNat]
def k1_off10 (k1_t1 : Fin k1_t1_loop.trips) : Fin 2 → Nat :=
  let c8_i32 : BitVec 32 := 8#32
  let v127 : Index := Scalar.indexCast c8_i32
  let c0_i32_3 : BitVec 32 := 0#32
  let c1_i32 : BitVec 32 := 1#32
  let arg10 : BitVec 32 := Scf.iv c0_i32_3 c1_i32 k1_t1
  let c16_i32 : BitVec 32 := 16#32
  let v58 : BitVec 32 := Scalar.muli arg10 c16_i32
  let v128 : Index := Scalar.indexCast v58
  ![8, v128.toNat]
def k1_off11 (k1_t1 : Fin k1_t1_loop.trips) : Fin 2 → Nat :=
  let c9_i32 : BitVec 32 := 9#32
  let v131 : Index := Scalar.indexCast c9_i32
  let c0_i32_3 : BitVec 32 := 0#32
  let c1_i32 : BitVec 32 := 1#32
  let arg10 : BitVec 32 := Scf.iv c0_i32_3 c1_i32 k1_t1
  let c16_i32 : BitVec 32 := 16#32
  let v58 : BitVec 32 := Scalar.muli arg10 c16_i32
  let v132 : Index := Scalar.indexCast v58
  ![9, v132.toNat]
def k1_off12 (k1_t1 : Fin k1_t1_loop.trips) : Fin 2 → Nat :=
  let c10_i32 : BitVec 32 := 10#32
  let v144 : Index := Scalar.indexCast c10_i32
  let c0_i32_3 : BitVec 32 := 0#32
  let c1_i32 : BitVec 32 := 1#32
  let arg10 : BitVec 32 := Scf.iv c0_i32_3 c1_i32 k1_t1
  let c16_i32 : BitVec 32 := 16#32
  let v58 : BitVec 32 := Scalar.muli arg10 c16_i32
  let v145 : Index := Scalar.indexCast v58
  ![10, v145.toNat]
def k1_off13 (k1_t1 : Fin k1_t1_loop.trips) : Fin 2 → Nat :=
  let c11_i32 : BitVec 32 := 11#32
  let v148 : Index := Scalar.indexCast c11_i32
  let c0_i32_3 : BitVec 32 := 0#32
  let c1_i32 : BitVec 32 := 1#32
  let arg10 : BitVec 32 := Scf.iv c0_i32_3 c1_i32 k1_t1
  let c16_i32 : BitVec 32 := 16#32
  let v58 : BitVec 32 := Scalar.muli arg10 c16_i32
  let v149 : Index := Scalar.indexCast v58
  ![11, v149.toNat]
def k1_off14 (k1_t1 : Fin k1_t1_loop.trips) : Fin 2 → Nat :=
  let c12_i32 : BitVec 32 := 12#32
  let v161 : Index := Scalar.indexCast c12_i32
  let c0_i32_3 : BitVec 32 := 0#32
  let c1_i32 : BitVec 32 := 1#32
  let arg10 : BitVec 32 := Scf.iv c0_i32_3 c1_i32 k1_t1
  let c16_i32 : BitVec 32 := 16#32
  let v58 : BitVec 32 := Scalar.muli arg10 c16_i32
  let v162 : Index := Scalar.indexCast v58
  ![12, v162.toNat]
def k1_off15 (k1_t1 : Fin k1_t1_loop.trips) : Fin 2 → Nat :=
  let c13_i32 : BitVec 32 := 13#32
  let v165 : Index := Scalar.indexCast c13_i32
  let c0_i32_3 : BitVec 32 := 0#32
  let c1_i32 : BitVec 32 := 1#32
  let arg10 : BitVec 32 := Scf.iv c0_i32_3 c1_i32 k1_t1
  let c16_i32 : BitVec 32 := 16#32
  let v58 : BitVec 32 := Scalar.muli arg10 c16_i32
  let v166 : Index := Scalar.indexCast v58
  ![13, v166.toNat]
def k1_off16 (k1_t1 : Fin k1_t1_loop.trips) : Fin 2 → Nat :=
  let c14_i32 : BitVec 32 := 14#32
  let v178 : Index := Scalar.indexCast c14_i32
  let c0_i32_3 : BitVec 32 := 0#32
  let c1_i32 : BitVec 32 := 1#32
  let arg10 : BitVec 32 := Scf.iv c0_i32_3 c1_i32 k1_t1
  let c16_i32 : BitVec 32 := 16#32
  let v58 : BitVec 32 := Scalar.muli arg10 c16_i32
  let v179 : Index := Scalar.indexCast v58
  ![14, v179.toNat]
def k1_off17 (k1_t1 : Fin k1_t1_loop.trips) : Fin 2 → Nat :=
  let c15_i32 : BitVec 32 := 15#32
  let v182 : Index := Scalar.indexCast c15_i32
  let c0_i32_3 : BitVec 32 := 0#32
  let c1_i32 : BitVec 32 := 1#32
  let arg10 : BitVec 32 := Scf.iv c0_i32_3 c1_i32 k1_t1
  let c16_i32 : BitVec 32 := 16#32
  let v58 : BitVec 32 := Scalar.muli arg10 c16_i32
  let v183 : Index := Scalar.indexCast v58
  ![15, v183.toNat]
def k1_off18 (k1_t1 : Fin k1_t1_loop.trips) : Fin 2 → Nat :=
  let c0_i32_88 : BitVec 32 := 0#32
  let v421 : Index := Scalar.indexCast c0_i32_88
  let c0_i32_3 : BitVec 32 := 0#32
  let c1_i32 : BitVec 32 := 1#32
  let arg10 : BitVec 32 := Scf.iv c0_i32_3 c1_i32 k1_t1
  let c16_i32 : BitVec 32 := 16#32
  let v58 : BitVec 32 := Scalar.muli arg10 c16_i32
  let v422 : Index := Scalar.indexCast v58
  ![0, v422.toNat]
def k1_off19 (k1_t1 : Fin k1_t1_loop.trips) : Fin 2 → Nat :=
  let c1_i32_89 : BitVec 32 := 1#32
  let v424 : Index := Scalar.indexCast c1_i32_89
  let c0_i32_3 : BitVec 32 := 0#32
  let c1_i32 : BitVec 32 := 1#32
  let arg10 : BitVec 32 := Scf.iv c0_i32_3 c1_i32 k1_t1
  let c16_i32 : BitVec 32 := 16#32
  let v58 : BitVec 32 := Scalar.muli arg10 c16_i32
  let v425 : Index := Scalar.indexCast v58
  ![1, v425.toNat]
def k1_off20 (i : grid1.Coords) : Fin 2 → Nat :=
  let c0_i32_5_r2 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![0, v2.toNat]
def k1_off21 (i : grid1.Coords) : Fin 2 → Nat :=
  let c0_i32_5_r3 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![0, v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x2048 : Shape := ⟨2, ![16384, 2048]⟩
abbrev S16x2048 : Shape := ⟨2, ![16, 2048]⟩
abbrev S16 : Shape := ⟨1, ![16]⟩
abbrev S2048x16 : Shape := ⟨2, ![2048, 16]⟩
abbrev S16384x16 : Shape := ⟨2, ![16384, 16]⟩
abbrev S1x16 : Shape := ⟨2, ![1, 16]⟩
abbrev S16384x2 : Shape := ⟨2, ![16384, 2]⟩
abbrev S16384 : Shape := ⟨1, ![16384]⟩
abbrev S16384x1 : Shape := ⟨2, ![16384, 1]⟩
abbrev S_ : Shape := ⟨0, ![]⟩
abbrev S16384x2x1 : Shape := ⟨3, ![16384, 2, 1]⟩
abbrev S16384x2x2 : Shape := ⟨3, ![16384, 2, 2]⟩

abbrev nBuf : Space → Nat
  | .hbm => 47
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16x2048, .f32⟩
  | .hbm, ⟨2, _⟩ => ⟨S16, .f32⟩
  | .hbm, ⟨3, _⟩ => ⟨S2048x16, .f32⟩
  | .hbm, ⟨4, _⟩ => ⟨S16384x16, .f32⟩
  | .hbm, ⟨5, _⟩ => ⟨S1x16, .f32⟩
  | .hbm, ⟨6, _⟩ => ⟨S16384x16, .f32⟩
  | .hbm, ⟨7, _⟩ => ⟨S16384x16, .f32⟩
  | .hbm, ⟨8, _⟩ => ⟨S16384x2, .f32⟩
  | .hbm, ⟨9, _⟩ => ⟨S16384x2, .i32⟩
  | .hbm, ⟨10, _⟩ => ⟨S16384, .i32⟩
  | .hbm, ⟨11, _⟩ => ⟨S16384x1, .i32⟩
  | .hbm, ⟨12, _⟩ => ⟨S_, .f32⟩
  | .hbm, ⟨13, _⟩ => ⟨S16384x16, .f32⟩
  | .hbm, ⟨14, _⟩ => ⟨S_, .i32⟩
  | .hbm, ⟨15, _⟩ => ⟨S16384x1, .i32⟩
  | .hbm, ⟨16, _⟩ => ⟨S16384x1, .i1⟩
  | .hbm, ⟨17, _⟩ => ⟨S_, .i32⟩
  | .hbm, ⟨18, _⟩ => ⟨S16384x1, .i32⟩
  | .hbm, ⟨19, _⟩ => ⟨S16384x1, .i32⟩
  | .hbm, ⟨20, _⟩ => ⟨S16384x1, .i32⟩
  | .hbm, ⟨21, _⟩ => ⟨S_, .i32⟩
  | .hbm, ⟨22, _⟩ => ⟨S16384x2, .i32⟩
  | .hbm, ⟨23, _⟩ => ⟨S16384x2, .i1⟩
  | .hbm, ⟨24, _⟩ => ⟨S_, .i32⟩
  | .hbm, ⟨25, _⟩ => ⟨S16384x2, .i32⟩
  | .hbm, ⟨26, _⟩ => ⟨S16384x2, .i32⟩
  | .hbm, ⟨27, _⟩ => ⟨S16384x2, .i32⟩
  | .hbm, ⟨28, _⟩ => ⟨S16384x2, .i32⟩
  | .hbm, ⟨29, _⟩ => ⟨S16384x2x1, .i32⟩
  | .hbm, ⟨30, _⟩ => ⟨S16384x2x1, .i32⟩
  | .hbm, ⟨31, _⟩ => ⟨S16384x2x2, .i32⟩
  | .hbm, ⟨32, _⟩ => ⟨S16384x16, .f32⟩
  | .hbm, ⟨33, _⟩ => ⟨S_, .f32⟩
  | .hbm, ⟨34, _⟩ => ⟨S16384, .f32⟩
  | .hbm, ⟨35, _⟩ => ⟨S_, .f32⟩
  | .hbm, ⟨36, _⟩ => ⟨S16384, .f32⟩
  | .hbm, ⟨37, _⟩ => ⟨S16384, .f32⟩
  | .hbm, ⟨38, _⟩ => ⟨S16384x1, .f32⟩
  | .hbm, ⟨39, _⟩ => ⟨S16384x16, .f32⟩
  | .hbm, ⟨40, _⟩ => ⟨S16384x16, .f32⟩
  | .hbm, ⟨41, _⟩ => ⟨S16384x16, .f32⟩
  | .hbm, ⟨42, _⟩ => ⟨S_, .f32⟩
  | .hbm, ⟨43, _⟩ => ⟨S16384, .f32⟩
  | .hbm, ⟨44, _⟩ => ⟨S16384x1, .f32⟩
  | .hbm, ⟨45, _⟩ => ⟨S16384x16, .f32⟩
  | .hbm, ⟨46, _⟩ => ⟨S16384x16, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_values : Ref sig .tc := ⟨.hbm, 8, rfl⟩
abbrev main_indices : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]
-- ==== Proof.Lanes.lean ====
/- One token's routing: the two largest of sixteen biased logits with their experts, by a tournament, and the two
   probabilities they get. Generic in the float operations. -/
module

public import Idealize.ShloMosaic.Lib.ValueIdxCore
public import Idealize.ShloMosaic.Lib.Tactic

@[expose] public section

noncomputable section

namespace Cert.Proof

open Idealize.ShloMosaic

variable {F : FTy → Type} [FloatOps F]

/-- The largest two of a group of logits, each with the number of the expert it belongs to. -/
structure Top (F : FTy → Type) where
  m1 : F .f32
  i1 : BitVec 32
  m2 : F .f32
  i2 : BitVec 32

/-- The group of the two logits `a` (expert `e`) and `b` (expert `e'`): the later one comes first only if strictly larger. -/
def leaf (a b : F .f32) (e e' : BitVec 32) : Top F where
  m1 := Scalar.select (FloatOps.cmpf .ogt b a) b a
  i1 := Scalar.select (FloatOps.cmpf .ogt b a) e' e
  m2 := Scalar.select (FloatOps.cmpf .ogt b a) a b
  i2 := Scalar.select (FloatOps.cmpf .ogt b a) e e'

/-- Two groups merged, the experts of `p` all before those of `q`. -/
def merge (p q : Top F) : Top F where
  m1 := Scalar.select (FloatOps.cmpf .ogt q.m1 p.m1) q.m1 p.m1
  i1 := Scalar.select (FloatOps.cmpf .ogt q.m1 p.m1) q.i1 p.i1
  m2 := Scalar.select (FloatOps.cmpf .ogt q.m1 p.m1)
    (Scalar.select (FloatOps.cmpf .ogt q.m2 p.m1) q.m2 p.m1) (Scalar.select (FloatOps.cmpf .ogt q.m1 p.m2) q.m1 p.m2)
  i2 := Scalar.select (FloatOps.cmpf .ogt q.m1 p.m1)
    (Scalar.select (FloatOps.cmpf .ogt q.m2 p.m1) q.i2 p.i1) (Scalar.select (FloatOps.cmpf .ogt q.m1 p.m2) q.i1 p.i2)

/-- The tournament over the sixteen logits `x`. -/
def top (x : Fin 16 → F .f32) : Top F :=
  merge
    (merge (merge (leaf (x 0) (x 1) 0#32 1#32) (leaf (x 2) (x 3) 2#32 3#32))
      (merge (leaf (x 4) (x 5) 4#32 5#32) (leaf (x 6) (x 7) 6#32 7#32)))
    (merge (merge (leaf (x 8) (x 9) 8#32 9#32) (leaf (x 10) (x 11) 10#32 11#32))
      (merge (leaf (x 12) (x 13) 12#32 13#32) (leaf (x 14) (x 15) 14#32 15#32)))

/-- The number one, as the kernel's constant prints it. -/
abbrev oneF : F .f32 := Scalar.ofBits .f32 0x3F800000#32
/-- The number zero. -/
abbrev zeroF : F .f32 := Scalar.ofBits .f32 0x00000000#32

/-- The first expert's probability from the two largest logits: `1 / (1 + exp (m2 - m1))`. -/
def prob1 (t : Top F) : F .f32 := FloatOps.divf oneF (FloatOps.addf oneF (FloatOps.exp (FloatOps.subf t.m2 t.m1)))
/-- The second expert's: what is left of one. -/
def prob2 (t : Top F) : F .f32 := FloatOps.subf oneF (prob1 t)

/-- The column entry of expert number `e`: its probability if it is one of the two, else zero. -/
def entry (t : Top F) (e : BitVec 32) : F .f32 :=
  Scalar.select (IntOp.cmpi .eq t.i1 e) (prob1 t) (Scalar.select (IntOp.cmpi .eq t.i2 e) (prob2 t) zeroF)

/-- The `k`-th expert chosen (`k = 0` the first, else the second). -/
def pick (t : Top F) (k : ℕ) : BitVec 32 := if k = 0 then t.i1 else t.i2

end Cert.Proof

end
-- ==== Proof.Setup.lean ====
/- The program as the launch theorem sees it: the call's configuration, the resource algebra, the arrays and each
   worker's pieces of them, and what the SparseCore call's handshakes carry. -/
module

public import proofs.«01_k».proof.Proof.Lanes
public import Idealize.ShloMosaic.Lib.SparseCore.Quiescent
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal
public import proofs.«01_k».proof.Proof.Gen.KernelIdeal.Skeleton
public import proofs.«01_k».proof.Proof.Gen.KernelIdeal.Launch

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## The program -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The side conditions of the SparseCore launch: its four semaphores' kinds and distinctness, decided. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds, -/
abbrev UH : Type := URounds (GSem nD τ sig) ℕ
/-- the TensorCore pipeline's, -/
abbrev UP : Type := URounds (GSem nD τ sig) Unit
/-- and beside both the counters of the tiles' own transfers. -/
abbrev UU : Type := UH × (UP × Counters)

local notation "𝕄" => MT nD τ sig (HIx 1) (Elt F) ℕ UU ℕ

abbrev EH : Emb UH (MT nD τ sig (HIx 1) (Elt F) ℕ UU ℕ) := embL
abbrev EP : Emb UP (MT nD τ sig (HIx 1) (Elt F) ℕ UU ℕ) :=
  ((Emb.inl : Emb UP (UP × Counters)).trans (Emb.inr : Emb (UP × Counters) UU)).trans uEmb.toEmb

/-! ## The arrays -/

variable (m : (ℓ : Loc nD τ sig) → Buf (Elt F) ℓ) (ρ : Dev nD → PrngReg)

abbrev xLoc (d : Dev nD) : Loc nD τ sig := (SparseCore.T d).loc main_arg0
abbrev wLoc (d : Dev nD) : Loc nD τ sig := (SparseCore.T d).loc main_arg1
abbrev bLoc (d : Dev nD) : Loc nD τ sig := (SparseCore.T d).loc main_arg2
abbrev lLoc (d : Dev nD) : Loc nD τ sig := (SparseCore.T d).loc main_v0
abbrev oLoc (d : Dev nD) : Loc nD τ sig := (SparseCore.T d).loc main_v1_0
abbrev iLoc (d : Dev nD) : Loc nD τ sig := (SparseCore.T d).loc main_v1_1

/-- Worker `w`'s block of the transposed logits: plane `w`. -/
abbrev lSet (w : Fin 32) : Finset S32x16x512.Idx := Finset.univ.filter fun y => (y 0).val = w.val
/-- Worker `w`'s columns of the probabilities, -/
abbrev oSet (w : Fin 32) : Finset S16x16384.Idx := Finset.univ.filter fun y => (y 1).val / 512 = w.val
/-- and of the expert numbers. -/
abbrev iSet (w : Fin 32) : Finset S2x16384.Idx := Finset.univ.filter fun y => (y 1).val / 512 = w.val

/-- The worker that tile `s` of SparseCore `c` is. -/
def wid (c : Fin 2) (s : Fin 16) : Fin 32 := ⟨2 * s.val + c.val, by omega⟩

variable [FloatOps F]

/-- Worker `w`'s share of the bias, one of 32. -/
abbrev bShare (w : Fin 32) : PosShare TreeShare := Transfers.dealOf fullShare Finset.univ w

/-- Token `n`'s sixteen biased logits, from the transposed logits `l` and the bias `b`. -/
def logits (l : S32x16x512.Idx → F .f32) (b : S16.Idx → F .f32) (w : Fin 32) (j : Fin 512) : Fin 16 → F .f32 :=
  fun e => FloatOps.addf (l (ix3 w e j)) (b (ix1 e))

/-- The number of the worker that has column `n`, -/
def wOf (n : Fin 16384) : Fin 32 := ⟨n.val / 512, by omega⟩
/-- and the column's place among the worker's. -/
def jOf (n : Fin 16384) : Fin 512 := ⟨n.val % 512, by omega⟩

/-- The probabilities the call leaves: entry (expert `e`, token `n`). -/
def OUT (l : S32x16x512.Idx → F .f32) (b : S16.Idx → F .f32) : S16x16384.Idx → F .f32 :=
  fun y => entry (top (logits l b (wOf (y 1)) (jOf (y 1)))) (BitVec.ofNat 32 (y 0).val)
/-- The expert numbers the call leaves: entry (first or second, token `n`). -/
def IDX (l : S32x16x512.Idx → F .f32) (b : S16.Idx → F .f32) : S2x16384.Idx → BitVec 32 :=
  fun y => pick (top (logits l b (wOf (y 1)) (jOf (y 1)))) (y 0).val

variable (l : (d : Dev nD) → Buf (Elt F) (lLoc d))

/-- Worker `w`'s pieces of the four arrays, the results at contents `fo` and `fi`. -/
def piece (d : Dev nD) (w : Fin 32) (fo : Buf (Elt F) (oLoc d)) (fi : Buf (Elt F) (iLoc d)) : sProp 𝕄 :=
  iprop((lLoc d ↦[lSet w]{fullShare} l d) ∗ (bLoc d ↦{bShare w} m (bLoc d)) ∗ (oLoc d ↦[oSet w]{fullShare} fo) ∗ iLoc d ↦[iSet w]{fullShare} fi)

/-- What each tile is handed, the results as the launch found them, -/
def pieceIn (d : Dev nD) (w : Fin 32) : sProp 𝕄 := piece m l d w (m (oLoc d)) (m (iLoc d))
/-- and what it gives back, the results computed. -/
def pieceOut (d : Dev nD) (w : Fin 32) : sProp 𝕄 := piece m l d w (OUT (l d) (m (bLoc d))) (IDX (l d) (m (bLoc d)))

omit [FloatOps F] in
instance piece_storable (d : Dev nD) (w : Fin 32) (fo : Buf (Elt F) (oLoc d)) (fi : Buf (Elt F) (iLoc d)) :
    BI.Storable (upEmb : UEmb _ 𝕄) (piece m l d w fo fi) := by unfold piece; infer_instance

/-- The call runs on two cores of sixteen subcores. -/
theorem nCore_zero : (K (F := F)).nCore 0 = 2 := rfl
theorem nSub_zero : (K (F := F)).nSub 0 = 16 := rfl

/-- The one call's payloads: each tile its pieces, each SparseCore its tiles' together. -/
def P : (K (F := F)).Pay (nD := nD) (Val := Elt F) (Name := ℕ) (U := UU) where
  st := fun q d c => match q with | 0 => bigSep Finset.univ fun s : Fin ((K (F := F)).nSub 0) => pieceIn m l d (wid (Fin.cast nCore_zero c) (Fin.cast nSub_zero s))
  dn := fun q d c => match q with | 0 => bigSep Finset.univ fun s : Fin ((K (F := F)).nSub 0) => pieceOut m l d (wid (Fin.cast nCore_zero c) (Fin.cast nSub_zero s))
  go := fun q d c s => match q with | 0 => pieceIn m l d (wid (Fin.cast nCore_zero c) (Fin.cast nSub_zero s))
  td := fun q d c s => match q with | 0 => pieceOut m l d (wid (Fin.cast nCore_zero c) (Fin.cast nSub_zero s))
  x := fun _ _ => iprop(emp)

instance P_storable : (P (F := F) m l).IsStorable where
  st q d c := match q with
    | 0 => (inferInstance : BI.Storable (upEmb : UEmb _ 𝕄) (bigSep Finset.univ fun s : Fin ((K (F := F)).nSub 0) => piece m l d (wid (Fin.cast nCore_zero c) (Fin.cast nSub_zero s)) (m (oLoc d)) (m (iLoc d))))
  dn q d c := match q with
    | 0 => (inferInstance : BI.Storable (upEmb : UEmb _ 𝕄) (bigSep Finset.univ fun s : Fin ((K (F := F)).nSub 0) => piece m l d (wid (Fin.cast nCore_zero c) (Fin.cast nSub_zero s)) (OUT (l d) (m (bLoc d))) (IDX (l d) (m (bLoc d)))))
  go q d c s := match q with
    | 0 => (inferInstance : BI.Storable (upEmb : UEmb _ 𝕄) (piece m l d (wid (Fin.cast nCore_zero c) (Fin.cast nSub_zero s)) (m (oLoc d)) (m (iLoc d))))
  td q d c s := match q with
    | 0 => (inferInstance : BI.Storable (upEmb : UEmb _ 𝕄) (piece m l d (wid (Fin.cast nCore_zero c) (Fin.cast nSub_zero s)) (OUT (l d) (m (bLoc d))) (IDX (l d) (m (bLoc d)))))

end Cert.Proof

end
-- ==== Proof.Trip.lean ====
/- The SparseCore kernel's body on one tile: two fetches, thirty-two trips of sixteen tokens each, two write-outs. -/
module

public import proofs.«01_k».proof.Proof.Setup
public import Idealize.ShloMosaic.Lib.ValueLayout

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.View (Piece)

variable {F : FTy → Type}

local notation "𝕄" => MT nD τ sig (HIx 1) (Elt F) ℕ UU ℕ

variable (m : (ℓ : Loc nD τ sig) → Buf (Elt F) ℓ)

/-- The logits, the bias, the two results and the tile's four scratches, as the body is given them. -/
abbrev lV : Memref Cert.KernelIdeal.sig Kind.scVector Space.hbm Cert.KernelIdeal.S32x16x512 EltTy.f32 := Memref.whole main_v0_scv
abbrev bV : Memref Cert.KernelIdeal.sig Kind.scVector Space.hbm Cert.KernelIdeal.S16 EltTy.f32 := Memref.whole Cert.KernelIdeal.main_arg2_scv
abbrev oV : Memref Cert.KernelIdeal.sig Kind.scVector Space.hbm Cert.KernelIdeal.S16x16384 EltTy.f32 := Memref.whole Cert.KernelIdeal.main_v1_0_scv
abbrev iV : Memref Cert.KernelIdeal.sig Kind.scVector Space.hbm Cert.KernelIdeal.S2x16384 EltTy.i32 := Memref.whole Cert.KernelIdeal.main_v1_1_scv
abbrev sL : Memref Cert.KernelIdeal.sig Kind.scVector Space.vmem Cert.KernelIdeal.S16x512 EltTy.f32 := Memref.whole Cert.KernelIdeal.cc1_scratch0
abbrev sB : Memref Cert.KernelIdeal.sig Kind.scVector Space.vmem Cert.KernelIdeal.S16 EltTy.f32 := Memref.whole Cert.KernelIdeal.cc1_scratch1
abbrev sO : Memref Cert.KernelIdeal.sig Kind.scVector Space.vmem Cert.KernelIdeal.S16x512 EltTy.f32 := Memref.whole Cert.KernelIdeal.cc1_scratch2
abbrev sI : Memref Cert.KernelIdeal.sig Kind.scVector Space.vmem Cert.KernelIdeal.S2x512 EltTy.i32 := Memref.whole Cert.KernelIdeal.cc1_scratch3

variable [FloatOps F] (l : (d : Dev nD) → Buf (Elt F) (lLoc d))

section Tile

variable (d : Dev nD) (L : grid1.Coords)

abbrev cV (L : grid1.Coords) : Fin τ.nSC := (L 0).castLE hcore1
abbrev jV (L : grid1.Coords) : Fin τ.nSub := (L 1).castLE hsub1
def wL (L : grid1.Coords) : Fin 32 := ⟨2 * (L 1).val + (L 0).val, by
  have h1 : (L 1).val < 16 := (L 1).isLt
  have h0 : (L 0).val < 2 := (L 0).isLt
  omega⟩

/-- The plane of the logits the tile fetches, and the columns of the two results it writes, as the body spells them. -/
abbrev lRow (L : grid1.Coords) : Memref sig .scVector .hbm S16x512 .f32 :=
  ((lV).slice (Rect.unit (s := S32x16x512) (k1_off1 L) S1x16x512.size (k1_off1_inb L)) (fun _ => rfl)).squeeze S16x512 squeezes_S1x16x512_S16x512
abbrev oCol (L : grid1.Coords) : Memref sig .scVector .hbm S16x512 .f32 :=
  (oV).slice (Rect.unit (s := S16x16384) (k1_off20 L) S16x512.size (k1_off20_inb L)) (fun _ => rfl)
abbrev iCol (L : grid1.Coords) : Memref sig .scVector .hbm S2x512 .i32 :=
  (iV).slice (Rect.unit (s := S2x16384) (k1_off21 L) S2x512.size (k1_off21_inb L)) (fun _ => rfl)

omit [FloatOps F] in
/-- A tile's plane of the logits is its worker's. -/
theorem set_lRow : (lRow L).view.set = lSet (wL L) := by
  show (((lV).view.slice (Rect.unit (s := S32x16x512) (k1_off1 L) S1x16x512.size (k1_off1_inb L))).reshape S16x512 squeezes_S1x16x512_S16x512.numel_eq).set = _
  rw [View.set_reshape, View.set_slice]
  ext y
  have h1 : (L 1).val < 16 := (L 1).isLt
  have h0 : (L 0).val < 2 := (L 0).isLt
  have hy1 : (y 1).val < 16 := (y 1).isLt
  have hy2 : (y 2).val < 512 := (y 2).isLt
  simp only [Memref.view_whole, Finset.mem_map, Finset.mem_filter, Finset.mem_univ, true_and]
  constructor
  · rintro ⟨z, hz, rfl⟩
    have := (Rect.mem_set_unit.mp hz) 0
    simp only [k1_off1_eq] at this
    show (z 0).val = _
    simp [wL, Fin.ext_iff] at this ⊢
    omega
  · intro h
    refine ⟨y, Rect.mem_set_unit.mpr fun a => ?_, rfl⟩
    simp only [k1_off1_eq]
    match a with
    | 0 => simp [wL, Fin.ext_iff] at h ⊢; omega
    | 1 => simp; omega
    | 2 => simp; omega

omit [FloatOps F] in
/-- A tile's columns of the probabilities are its worker's. -/
theorem set_oCol : (oCol L).view.set = oSet (wL L) := by
  show ((oV).view.slice (Rect.unit (s := S16x16384) (k1_off20 L) S16x512.size (k1_off20_inb L))).set = _
  rw [View.set_slice]
  ext y
  have h1 : (L 1).val < 16 := (L 1).isLt
  have h0 : (L 0).val < 2 := (L 0).isLt
  have hy0 : (y 0).val < 16 := (y 0).isLt
  simp only [Memref.view_whole, Finset.mem_map, Finset.mem_filter, Finset.mem_univ, true_and]
  constructor
  · rintro ⟨z, hz, rfl⟩
    have := (Rect.mem_set_unit.mp hz) 1
    simp only [k1_off20_eq] at this
    show (z 1).val / 512 = _
    simp [wL, Fin.ext_iff] at this ⊢
    omega
  · intro h
    refine ⟨y, Rect.mem_set_unit.mpr fun a => ?_, rfl⟩
    simp only [k1_off20_eq]
    match a with
    | 0 => simp; omega
    | 1 => simp [wL, Fin.ext_iff] at h ⊢; omega

omit [FloatOps F] in
/-- A tile's columns of the expert numbers are its worker's. -/
theorem set_iCol : (iCol L).view.set = iSet (wL L) := by
  show ((iV).view.slice (Rect.unit (s := S2x16384) (k1_off21 L) S2x512.size (k1_off21_inb L))).set = _
  rw [View.set_slice]
  ext y
  have h1 : (L 1).val < 16 := (L 1).isLt
  have h0 : (L 0).val < 2 := (L 0).isLt
  have hy0 : (y 0).val < 2 := (y 0).isLt
  simp only [Memref.view_whole, Finset.mem_map, Finset.mem_filter, Finset.mem_univ, true_and]
  constructor
  · rintro ⟨z, hz, rfl⟩
    have := (Rect.mem_set_unit.mp hz) 1
    simp only [k1_off21_eq] at this
    show (z 1).val / 512 = _
    simp [wL, Fin.ext_iff] at this ⊢
    omega
  · intro h
    refine ⟨y, Rect.mem_set_unit.mpr fun a => ?_, rfl⟩
    simp only [k1_off21_eq]
    match a with
    | 0 => simp; omega
    | 1 => simp [wL, Fin.ext_iff] at h ⊢; omega

/-- The probabilities of token `j` of a block of logits `x` with bias `b`, as the body leaves them in its scratch; -/
def outB (x : S16x512.Idx → F .f32) (b : S16.Idx → F .f32) : S16x512.Idx → F .f32 :=
  fun y => entry (top fun e => FloatOps.addf (x (ix2 e (y 1))) (b (ix1 e))) (BitVec.ofNat 32 (y 0).val)
/-- and its two expert numbers. -/
def idxB (x : S16x512.Idx → F .f32) (b : S16.Idx → F .f32) : S2x512.Idx → BitVec 32 :=
  fun y => pick (top fun e => FloatOps.addf (x (ix2 e (y 1))) (b (ix1 e))) (y 0).val

/-- After `k` trips: the logits' and the bias's scratches as fetched, and the first `16 * k` columns of the results done. -/
def inv (x : S16x512.Idx → F .f32) (b : S16.Idx → F .f32) (k : ℕ) (_ : BitVec 32) : sProp 𝕄 :=
  iprop(((sL).view.loc (V d (cV L) (jV L)) ↦{fullShare} x)
    ∗ (∃ f, ⌜∀ y : S16x512.Idx, (y 1).val < 16 * k → f y = outB x b y⌝ ∗ (sO).view.loc (V d (cV L) (jV L)) ↦{fullShare} f)
    ∗ (∃ f, ⌜∀ y : S2x512.Idx, (y 1).val < 16 * k → f y = idxB x b y⌝ ∗ (sI).view.loc (V d (cV L) (jV L)) ↦{fullShare} f))

/-- Where trip `k` finds expert `e`'s sixteen logits and where it puts that expert's sixteen probabilities. -/
abbrev rowOff (k : Fin k1_t1_loop.trips) : Fin 16 → Fin 2 → ℕ :=
  ![k1_off2 k, k1_off3 k, k1_off4 k, k1_off5 k, k1_off6 k, k1_off7 k, k1_off8 k, k1_off9 k, k1_off10 k, k1_off11 k, k1_off12 k, k1_off13 k,
    k1_off14 k, k1_off15 k, k1_off16 k, k1_off17 k]

omit [FloatOps F] in
/-- That place: row `e`, from column `16 * k` on; -/
theorem rowOff_eq (k : Fin k1_t1_loop.trips) (e : Fin 16) : rowOff k e = ![e.val, 16 * k.val] := by
  fin_cases e
  exacts [k1_off2_eq k, k1_off3_eq k, k1_off4_eq k, k1_off5_eq k, k1_off6_eq k, k1_off7_eq k, k1_off8_eq k, k1_off9_eq k, k1_off10_eq k,
    k1_off11_eq k, k1_off12_eq k, k1_off13_eq k, k1_off14_eq k, k1_off15_eq k, k1_off16_eq k, k1_off17_eq k]

omit [FloatOps F] in
/-- inside the scratch. -/
theorem rowOff_inb (k : Fin k1_t1_loop.trips) (e : Fin 16) : ∀ a : Fin 2, rowOff k e a + S1x16.size a ≤ S16x512.size a := by
  have hk : k.val < 32 := k.isLt
  intro a
  rw [rowOff_eq]
  match a with
  | 0 => simp; omega
  | 1 => simp; omega

/-- The sixteen logits of expert `e` that trip `k` loads. -/
abbrev rowLd (x : S16x512.Idx → F .f32) (k : Fin k1_t1_loop.trips) (e : Fin 16) : Vec F S1x16 .f32 :=
  View.readAt (Elt F) (sL).view (Rect.unit (s := S16x512) (rowOff k e) S1x16.size (rowOff_inb k e)).toLoadRect x

omit [FloatOps F] in
/-- The bias has sixteen entries. -/
theorem slices_e (e : Fin 16) : Shape.Slices S16 ![e.val] S1 := by
  revert e; decide

/-- The bias's entry `e`, as the body takes it out of the vector. -/
abbrev biasAt (b : Vec F S16 .f32) (e : Fin 16) : F .f32 :=
  extractAt ![0] (extractStridedSlice S1 ![e.val] b (slices_e e)) inpos_S1_p0

/-- Lane `j`'s tournament in trip `k`. -/
abbrev laneTop (x : S16x512.Idx → F .f32) (b : Vec F S16 .f32) (k : Fin k1_t1_loop.trips) (j : S16.Idx) : Top F :=
  top fun e => FloatOps.addf (shapeCast S16 (rowLd x k e) shapeCasts_S1x16_S16 j) (biasAt b e)

omit [FloatOps F] in
/-- A load of a row reads the block's sixteen columns `16 * k …` of the row. -/
theorem rowLd_apply (x : S16x512.Idx → F .f32) (k : Fin k1_t1_loop.trips) (e j : Fin 16) (c : Fin 512) (hc : c.val = 16 * k.val + j.val) :
    shapeCast S16 (rowLd x k e) shapeCasts_S1x16_S16 (ix1 j) = x (ix2 e c) := by
  have h := shapeCast_1a_a_apply (rowLd x k e) shapeCasts_S1x16_S16 j
  refine h.trans ?_
  show x _ = x _
  congr 1
  funext a
  refine Fin.ext ?_
  show rowOff k e a + 1 * (ix2 (0 : Fin 1) j a).val = _
  rw [rowOff_eq]
  match a with
  | 0 => show e.val + 1 * 0 = e.val; omega
  | 1 => show 16 * k.val + 1 * j.val = c.val; omega

omit [FloatOps F] in
/-- The bias's entry `e`. -/
theorem biasAt_eq (b : Vec F S16 .f32) (e : Fin 16) : biasAt b e = b (ix1 e) := by
  show b _ = b _
  congr 1
  funext a
  match a with
  | 0 => rfl

/-- Lane `j` of trip `k` is token `16 * k + j` of the block. -/
theorem laneTop_eq (x : S16x512.Idx → F .f32) (b : Vec F S16 .f32) (k : Fin k1_t1_loop.trips) (j : Fin 16) (c : Fin 512)
    (hc : c.val = 16 * k.val + j.val) :
    laneTop x b k (ix1 j) = top fun e => FloatOps.addf (x (ix2 e c)) (b (ix1 e)) := by
  unfold laneTop
  congr 1
  funext e
  rw [rowLd_apply x k e j c hc, biasAt_eq]

/-- A store of trip `k` into row `e` of a two-dimensional scratch, right against `G`. -/
def Good {n : ℕ} {el : EltTy} (G : (⟨2, ![n, 512]⟩ : Shape).Idx → Elt F el) (k : ℕ) (e : ℕ) (p : Piece (Elt F) ⟨2, ![n, 512]⟩ el) : Prop :=
  (∀ z, p.2 z = G (p.1.emb z)) ∧ ∀ y : (⟨2, ![n, 512]⟩ : Shape).Idx, y ∈ p.1.set ↔ (y 0).val = e ∧ 16 * k ≤ (y 1).val ∧ (y 1).val < 16 * (k + 1)

omit [FloatOps F] in
/-- Stores right row by row extend the finished columns by sixteen. -/
theorem cols {n : ℕ} {el : EltTy} {κ : Kind} {sp : Space} (v : View sig κ sp ⟨2, ![n, 512]⟩ el) (f : v.ty.Contents (Elt F))
    (G : (⟨2, ![n, 512]⟩ : Shape).Idx → Elt F el) (k : ℕ) (es : List ℕ) (L : List (Piece (Elt F) ⟨2, ![n, 512]⟩ el))
    (h : List.Forall₂ (Good G k) es L) (hes : ∀ e < n, e ∈ es)
    (hf : ∀ y : (⟨2, ![n, 512]⟩ : Shape).Idx, (y 1).val < 16 * k → v.read (Elt F) f y = G y) :
    ∀ y : (⟨2, ![n, 512]⟩ : Shape).Idx, (y 1).val < 16 * (k + 1) → v.read (Elt F) (v.writes (Elt F) f L) y = G y := by
  have hall : ∀ p ∈ L, ∃ e, Good G k e p := by
    clear hes
    induction h with
    | nil => intro p hp; cases hp
    | cons hg _ ih =>
      intro p hp
      rcases List.mem_cons.mp hp with rfl | hp
      · exact ⟨_, hg⟩
      · exact ih p hp
  have hex : ∀ e ∈ es, ∃ p ∈ L, Good G k e p := by
    clear hes hall
    induction h with
    | nil => intro e he; cases he
    | cons hg _ ih =>
      intro e he
      rcases List.mem_cons.mp he with rfl | he
      · exact ⟨_, List.mem_cons_self, hg⟩
      · obtain ⟨p, hp, hpg⟩ := ih e he
        exact ⟨p, List.mem_cons_of_mem _ hp, hpg⟩
  intro y hy
  by_cases hk : 16 * k ≤ (y 1).val
  · refine View.read_writes_apply_of_pieces v f G L (fun p hp => (hall p hp).choose_spec.1) y ?_
    obtain ⟨p, hp, hpg⟩ := hex _ (hes _ (y 0).isLt)
    exact ⟨p, hp, (hpg.2 y).mpr ⟨rfl, hk, hy⟩⟩
  · rw [View.read_writes_apply_of_forall_not_mem v f y L fun p hp hm => hk (((hall p hp).choose_spec.2 y).mp hm).2.1]
    exact hf y (by omega)

omit [FloatOps F] in
/-- One such store: sixteen lanes, each right. -/
theorem good {n : ℕ} {el : EltTy} (G : (⟨2, ![n, 512]⟩ : Shape).Idx → Elt F el) (k : ℕ) (hk : k < 32) (e : Fin n) (off : Fin 2 → ℕ)
    (inb : ∀ a, off a + S1x16.size a ≤ (⟨2, ![n, 512]⟩ : Shape).size a) (hoff : off = ![e.val, 16 * k]) (w : Vec F S16 el)
    (hw : ∀ (j : Fin 16) (c : Fin 512), c.val = 16 * k + j.val → w (ix1 j) = G (ix2 e c)) :
    Good (F := F) G k e.val ⟨Rect.unit (s := ⟨2, ![n, 512]⟩) off S1x16.size inb, shapeCast S1x16 w shapeCasts_S16_S1x16⟩ := by
  subst hoff
  refine ⟨fun z => ?_, fun y => ?_⟩
  · have hz : z = ix2 (0 : Fin 1) (z 1) := by
      funext a
      match a with
      | 0 => exact Subsingleton.elim (α := Fin 1) _ _
      | 1 => rfl
    have hz1 : (z 1).val < 16 := (z 1).isLt
    rw [hz]
    refine (shapeCast_a_1a_apply w shapeCasts_S16_S1x16 0 (z 1)).trans ((hw (z 1) ⟨16 * k + (z 1).val, by omega⟩ rfl).trans ?_)
    congr 1
    funext a
    refine Fin.ext ?_
    match a with
    | 0 => show e.val = e.val + 1 * 0; omega
    | 1 => show 16 * k + (z 1).val = 16 * k + 1 * (z 1).val; omega
  · rw [Rect.mem_set_unit]
    constructor
    · intro h
      have h0 := h 0
      have h1 := h 1
      simp at h0 h1
      omega
    · rintro ⟨h0, h1, h2⟩ a
      match a with
      | 0 => simp; omega
      | 1 => simp; omega

set_option maxHeartbeats 4000000 in
/-- The body on one trip: sixteen more columns. -/
theorem trip (x : S16x512.Idx → F .f32) (b : Vec F S16 .f32) (k : Fin k1_t1_loop.trips) (c : BitVec 32) :
    inv (F := F) d L x b k.val c
      ⊢ wp frame (wpE (defs₀ (F := F)) 𝒱₀ (V d (cV L) (jV L)) none) Set.univ
          (k1_t1_body L lV (Memref.isWhole_whole _) bV (Memref.isWhole_whole _) oV (Memref.isWhole_whole _) iV (Memref.isWhole_whole _)
            sL (Memref.isWhole_whole _) sB (Memref.isWhole_whole _) sO (Memref.isWhole_whole _) sI (Memref.isWhole_whole _)
            cc1_scoped0 cc1_scoped1 cc1_scoped2 cc1_scoped3 k1_pay131 k1_pay132 b (k1_pay133 b) (k1_pay134 b) (k1_pay135 b) (k1_pay136 b)
            (k1_pay137 b) (k1_pay138 b) (k1_pay139 b) (k1_pay140 b) k c)
          (inv (F := F) d L x b (k.val + 1)) := by
  unfold inv
  iintro ⟨Hx, ⟨%f, %hf, Ho⟩, ⟨%g, %hg, Hi⟩⟩
  sl_exec
  have hk : k.val < 32 := k.isLt
  have h1 : ∀ j, trip.sl.r_52 x b k j = (laneTop x b k j).i1 := fun j => rfl
  have h2 : ∀ j, trip.sl.r_53 x b k j = (laneTop x b k j).i2 := fun j => rfl
  have h3 : ∀ j, trip.sl.r_54 x b k j = prob1 (laneTop x b k j) := fun j => rfl
  have h4 : ∀ j, trip.sl.r_55 x b k j = prob2 (laneTop x b k j) := fun j => rfl
  have hrow : ∀ (n : Fin 16) (j : Fin 16) (c : Fin 512), c.val = 16 * k.val + j.val →
      Scalar.select (IntOp.cmpi .eq (trip.sl.r_52 x b k (ix1 j)) (BitVec.ofNat 32 n.val)) (trip.sl.r_54 x b k (ix1 j))
        (Scalar.select (IntOp.cmpi .eq (trip.sl.r_53 x b k (ix1 j)) (BitVec.ofNat 32 n.val)) (trip.sl.r_55 x b k (ix1 j)) zeroF)
        = outB x b (ix2 n c) := by
    intro n j c hc
    rw [h1, h2, h3, h4, laneTop_eq x b k j c hc]
    rfl
  sl_step
  isplitl [Hx]; · iexact Hx
  isplitl [Ho]
  · iexists _; isplitr; swap; · iexact Ho
    ipureintro
    intro y hy
    refine (congrFun (View.read_whole (Val := Elt F) cc1_scratch2 _) y).symm.trans ?_
    refine cols (sO).view f (outB x b) k.val [15, 14, 13, 12, 11, 10, 9, 8, 7, 6, 5, 4, 3, 2, 1, 0] _ ?_ (by decide) hf y hy
    refine .cons (good _ _ hk 15 _ _ (k1_off17_eq k) _ (hrow 15)) ?_
    refine .cons (good _ _ hk 14 _ _ (k1_off16_eq k) _ (hrow 14)) ?_
    refine .cons (good _ _ hk 13 _ _ (k1_off15_eq k) _ (hrow 13)) ?_
    refine .cons (good _ _ hk 12 _ _ (k1_off14_eq k) _ (hrow 12)) ?_
    refine .cons (good _ _ hk 11 _ _ (k1_off13_eq k) _ (hrow 11)) ?_
    refine .cons (good _ _ hk 10 _ _ (k1_off12_eq k) _ (hrow 10)) ?_
    refine .cons (good _ _ hk 9 _ _ (k1_off11_eq k) _ (hrow 9)) ?_
    refine .cons (good _ _ hk 8 _ _ (k1_off10_eq k) _ (hrow 8)) ?_
    refine .cons (good _ _ hk 7 _ _ (k1_off9_eq k) _ (hrow 7)) ?_
    refine .cons (good _ _ hk 6 _ _ (k1_off8_eq k) _ (hrow 6)) ?_
    refine .cons (good _ _ hk 5 _ _ (k1_off7_eq k) _ (hrow 5)) ?_
    refine .cons (good _ _ hk 4 _ _ (k1_off6_eq k) _ (hrow 4)) ?_
    refine .cons (good _ _ hk 3 _ _ (k1_off5_eq k) _ (hrow 3)) ?_
    refine .cons (good _ _ hk 2 _ _ (k1_off4_eq k) _ (hrow 2)) ?_
    refine .cons (good _ _ hk 1 _ _ (k1_off3_eq k) _ (hrow 1)) ?_
    exact .cons (good _ _ hk 0 _ _ (k1_off2_eq k) _ (hrow 0)) .nil
  · iexists _; isplitr; swap; · iexact Hi
    ipureintro
    intro y hy
    refine (congrFun (View.read_whole (Val := Elt F) cc1_scratch3 _) y).symm.trans ?_
    refine cols (sI).view g (idxB x b) k.val [1, 0] _ ?_ (by decide) hg y hy
    refine .cons (good _ _ hk 1 _ _ (k1_off19_eq k) _ fun j c hc => ?_) (.cons (good _ _ hk 0 _ _ (k1_off18_eq k) _ fun j c hc => ?_) .nil)
    · rw [h2, laneTop_eq x b k j c hc]; rfl
    · rw [h1, laneTop_eq x b k j c hc]; rfl

end Tile

end Cert.Proof

end
-- ==== Proof.Tile.lean ====
/- The SparseCore kernel's body on one tile: two fetches, thirty-two trips, two write-outs; and the launch's duties about it. -/
module

public import proofs.«01_k».proof.Proof.Trip

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ)

variable [FloatOps F] (l : (d : Dev nD) → Buf (Elt F) (lLoc d))

section Tile

variable (d : Dev nD) (L : grid1.Coords)

omit [FloatOps F] in
/-- The tile's piece of each array in the large memory, and each of its buffers, as its views name them. -/
theorem pts_l (f : Buf (Elt F) (lLoc d)) :
    ((lRow L).view.loc (V d (cV L) (jV L)) ↦[(lRow L).view.set]{fullShare} f : sProp 𝕄) = lLoc d ↦[lSet (wL L)]{fullShare} f := by
  rw [set_lRow]
omit [FloatOps F] in
theorem pts_b (q : PosShare TreeShare) (f : Buf (Elt F) (bLoc d)) :
    ((bV).view.loc (V d (cV L) (jV L)) ↦{q} f : sProp 𝕄) = bLoc d ↦{q} f := rfl
omit [FloatOps F] in
theorem pts_o (f : Buf (Elt F) (oLoc d)) :
    ((oCol L).view.loc (V d (cV L) (jV L)) ↦[(oCol L).view.set]{fullShare} f : sProp 𝕄) = oLoc d ↦[oSet (wL L)]{fullShare} f := by
  rw [set_oCol]
omit [FloatOps F] in
theorem pts_i (f : Buf (Elt F) (iLoc d)) :
    ((iCol L).view.loc (V d (cV L) (jV L)) ↦[(iCol L).view.set]{fullShare} f : sProp 𝕄) = iLoc d ↦[iSet (wL L)]{fullShare} f := by
  rw [set_iCol]
omit [FloatOps F] in
theorem pts_sL (f : Buf (Elt F) ((V d (cV L) (jV L)).loc cc1_scratch0)) :
    ((sL).view.loc (V d (cV L) (jV L)) ↦{fullShare} f : sProp 𝕄) = (V d (cV L) (jV L)).loc cc1_scratch0 ↦{fullShare} f := rfl
omit [FloatOps F] in
theorem pts_sB (f : Buf (Elt F) ((V d (cV L) (jV L)).loc cc1_scratch1)) :
    ((sB).view.loc (V d (cV L) (jV L)) ↦{fullShare} f : sProp 𝕄) = (V d (cV L) (jV L)).loc cc1_scratch1 ↦{fullShare} f := rfl
omit [FloatOps F] in
theorem pts_sO (f : Buf (Elt F) ((V d (cV L) (jV L)).loc cc1_scratch2)) :
    ((sO).view.loc (V d (cV L) (jV L)) ↦{fullShare} f : sProp 𝕄) = (V d (cV L) (jV L)).loc cc1_scratch2 ↦{fullShare} f := rfl
omit [FloatOps F] in
theorem pts_sI (f : Buf (Elt F) ((V d (cV L) (jV L)).loc cc1_scratch3)) :
    ((sI).view.loc (V d (cV L) (jV L)) ↦{fullShare} f : sProp 𝕄) = (V d (cV L) (jV L)).loc cc1_scratch3 ↦{fullShare} f := rfl

/-- The four DMA cells the body names, one per transfer. -/
abbrev c0cell (d : Dev nD) (c : Fin τ.nSC) (i : Fin τ.nSub) : GSem nD τ sig := (V d c i, .dma cc1_scoped0.sem)
abbrev c1cell (d : Dev nD) (c : Fin τ.nSC) (i : Fin τ.nSub) : GSem nD τ sig := (V d c i, .dma cc1_scoped1.sem)
abbrev c2cell (d : Dev nD) (c : Fin τ.nSC) (i : Fin τ.nSub) : GSem nD τ sig := (V d c i, .dma cc1_scoped2.sem)
abbrev c3cell (d : Dev nD) (c : Fin τ.nSC) (i : Fin τ.nSub) : GSem nD τ sig := (V d c i, .dma cc1_scoped3.sem)

omit [FloatOps F] in
/-- They are among the tile's own cells: those four at zero, and the rest. -/
theorem ownSems0_V :
    (ownSems0 (V d (cV L) (jV L)) : sProp 𝕄)
      = iprop(semVal (c0cell d (cV L) (jV L)) 0 ∗ semVal (c1cell d (cV L) (jV L)) 0 ∗ semVal (c2cell d (cV L) (jV L)) 0 ∗ semVal (c3cell d (cV L) (jV L)) 0
          ∗ bigSep (((((ownCells (V d (cV L) (jV L))).erase (c0cell d (cV L) (jV L))).erase (c1cell d (cV L) (jV L))).erase (c2cell d (cV L) (jV L))).erase
              (c3cell d (cV L) (jV L))) fun g => semVal g 0) := by
  unfold SparseCore.Cfg.ownSems0
  have hm : ∀ k : SemLoc sig, k.isScoped .scVector = true → ((V d (cV L) (jV L), k) : GSem nD τ sig) ∈ ownCells (V d (cV L) (jV L)) :=
    fun k hk => mem_ownCells.mpr ⟨rfl, hk⟩
  have hne : ∀ k k' : SemLoc sig, k ≠ k' → ((V d (cV L) (jV L), k) : GSem nD τ sig) ≠ (V d (cV L) (jV L), k') := fun k k' h e => h (Prod.mk.inj e).2
  rw [SparseCore.bigSep_erase' (hm (.dma cc1_scoped0.sem) (by decide)),
    SparseCore.bigSep_erase' (Finset.mem_erase.mpr ⟨hne (.dma cc1_scoped1.sem) (.dma cc1_scoped0.sem) (by decide), hm _ (by decide)⟩),
    SparseCore.bigSep_erase' (Finset.mem_erase.mpr ⟨hne (.dma cc1_scoped2.sem) (.dma cc1_scoped1.sem) (by decide),
      Finset.mem_erase.mpr ⟨hne (.dma cc1_scoped2.sem) (.dma cc1_scoped0.sem) (by decide), hm _ (by decide)⟩⟩),
    SparseCore.bigSep_erase' (Finset.mem_erase.mpr ⟨hne (.dma cc1_scoped3.sem) (.dma cc1_scoped2.sem) (by decide),
      Finset.mem_erase.mpr ⟨hne (.dma cc1_scoped3.sem) (.dma cc1_scoped1.sem) (by decide),
        Finset.mem_erase.mpr ⟨hne (.dma cc1_scoped3.sem) (.dma cc1_scoped0.sem) (by decide), hm _ (by decide)⟩⟩⟩)]

omit [FloatOps F] in
/-- The tile's own buffers: the four scratches, each at some contents, and the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f) ∗ (∃ f, (V d (cV L) (jV L)).loc cc1_scratch3 ↦{fullShare} f)
          ∗ bigSep (((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2)).erase
              ((Proc.scVector (cV L) (jV L)).devRef cc1_scratch3))
              fun b => iprop(∃ f, ((d, b) : Loc nD τ sig) ↦{fullShare} f)) := by
  unfold SparseCore.Cfg.ownBufs
  have hne : ∀ b b' : Ref sig .scVector, b ≠ b' → (Proc.scVector (τ := τ) (cV L) (jV L)).devRef b ≠ (Proc.scVector (cV L) (jV L)).devRef b' :=
    fun b b' h e => h (Proc.devRef_injective _ e)
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨hne cc1_scratch1 cc1_scratch0 (by decide),
      SparseCore.Cfg.mem_ownRefs_of_owner (p := Proc.scVector (cV L) (jV L)) (b := (Proc.scVector (cV L) (jV L)).devRef cc1_scratch1) rfl⟩),
    SparseCore.bigSep_erase' (Finset.mem_erase.mpr ⟨hne cc1_scratch2 cc1_scratch1 (by decide), Finset.mem_erase.mpr ⟨hne cc1_scratch2 cc1_scratch0 (by decide),
      SparseCore.Cfg.mem_ownRefs_of_owner (p := Proc.scVector (cV L) (jV L)) (b := (Proc.scVector (cV L) (jV L)).devRef cc1_scratch2) rfl⟩⟩),
    SparseCore.bigSep_erase' (Finset.mem_erase.mpr ⟨hne cc1_scratch3 cc1_scratch2 (by decide), Finset.mem_erase.mpr ⟨hne cc1_scratch3 cc1_scratch1 (by decide),
      Finset.mem_erase.mpr ⟨hne cc1_scratch3 cc1_scratch0 (by decide),
      SparseCore.Cfg.mem_ownRefs_of_owner (p := Proc.scVector (cV L) (jV L)) (b := (Proc.scVector (cV L) (jV L)).devRef cc1_scratch3) rfl⟩⟩⟩)]

/-- The block the tile fetches. -/
abbrev xB : S16x512.Idx → F .f32 := (lRow L).view.read (Elt F) (l d)

omit [FloatOps F] in
/-- The block is plane `wL L` of the logits. -/
theorem xB_apply (e : Fin 16) (j : Fin 512) : xB l d L (ix2 e j) = l d (ix3 (wL L) e j) := by
  show l d ((Rect.unit (s := S32x16x512) (k1_off1 L) S1x16x512.size (k1_off1_inb L)).emb
    (Shape.reshapeEquiv squeezes_S1x16x512_S16x512.numel_eq (ix2 e j))) = _
  rw [reshapeEquiv_ix2_1ab]
  congr 1
  funext a
  refine Fin.ext ?_
  show k1_off1 L a + 1 * (ix3 (⟨0, Nat.one_pos⟩ : Fin 1) e j a).val = _
  rw [k1_off1_eq]
  match a with
  | 0 => show 2 * (L 1).val + (L 0).val + 1 * 0 = 2 * (L 1).val + (L 0).val; omega
  | 1 => show 0 + 1 * e.val = e.val; omega
  | 2 => show 0 + 1 * j.val = j.val; omega

/-- Column `c` of the tile's block is a column of the whole result: the tile's 512 start at `512 * wL L`. -/
theorem col_eq (c : Fin 512) (n : Fin 16384) (h : n.val = 1024 * (L 1).val + 512 * (L 0).val + c.val) : wOf n = wL L ∧ jOf n = c := by
  have h1 : (L 1).val < 16 := (L 1).isLt
  have h0 : (L 0).val < 2 := (L 0).isLt
  refine ⟨Fin.ext ?_, Fin.ext ?_⟩
  · show n.val / 512 = 2 * (L 1).val + (L 0).val
    omega
  · show n.val % 512 = c.val
    omega

omit [FloatOps F] in
/-- A whole block written through a view leaves, on the view's own elements, any contents that read the same there. -/
theorem on_set {κ : Kind} {sp : Space} {s : Shape} {e : EltTy} (v : View sig κ sp s e) (f G : v.ty.Contents (Elt F)) (w : s.Idx → Elt F e)
    (h : ∀ z, w z = v.read (Elt F) G z) : ∀ y ∈ v.set, v.writes (Elt F) f [⟨Rect.whole s, w⟩] y = G y := by
  intro y hy
  obtain ⟨z, -, rfl⟩ := Finset.mem_map.mp hy
  have h1 := (View.read_writes_cons_hit (Val := Elt F) v f (Rect.whole s) w [] z z (Rect.emb_whole_apply _ _)).trans (h z)
  rw [View.read_apply, View.read_apply] at h1
  exact (cast_inj _).mp h1

/-- The probabilities' columns, written from a block with the right entries, hold the result there; -/
theorem out_eq (f : Buf (Elt F) (oLoc d)) (w : S16x512.Idx → F .f32) (b : S16.Idx → F .f32) (hw : ∀ z, w z = outB (xB l d L) b z) :
    ∀ y ∈ (oCol L).view.set, (oCol L).view.writes (Elt F) f [⟨Rect.whole S16x512, w⟩] y = OUT (l d) b y := by
  refine on_set (oCol L).view f _ w fun z => (hw z).trans ?_
  show _ = OUT (l d) b ((oCol L).view.emb z)
  have h1 : (((oCol L).view.emb z) 1).val = 1024 * (L 1).val + 512 * (L 0).val + (z 1).val := by
    show k1_off20 L 1 + 1 * (z 1).val = _
    rw [k1_off20_eq, Nat.one_mul]; rfl
  have h0 : (((oCol L).view.emb z) 0).val = (z 0).val := by
    show k1_off20 L 0 + 1 * (z 0).val = _
    rw [k1_off20_eq, Nat.one_mul]; exact Nat.zero_add _
  obtain ⟨hw', hj⟩ := col_eq L (z 1) _ h1
  unfold OUT outB logits
  rw [hw', hj, h0]
  exact congrArg (fun x => entry (top x) _) (funext fun e => congrArg (FloatOps.addf · _) (xB_apply l d L e (z 1)))

/-- and likewise the expert numbers'. -/
theorem idx_eq (f : Buf (Elt F) (iLoc d)) (w : S2x512.Idx → BitVec 32) (b : S16.Idx → F .f32) (hw : ∀ z, w z = idxB (xB l d L) b z) :
    ∀ y ∈ (iCol L).view.set, (iCol L).view.writes (Elt F) f [⟨Rect.whole S2x512, w⟩] y = IDX (l d) b y := by
  refine on_set (iCol L).view f _ w fun z => (hw z).trans ?_
  show _ = IDX (l d) b ((iCol L).view.emb z)
  have h1 : (((iCol L).view.emb z) 1).val = 1024 * (L 1).val + 512 * (L 0).val + (z 1).val := by
    show k1_off21 L 1 + 1 * (z 1).val = _
    rw [k1_off21_eq, Nat.one_mul]; rfl
  have h0 : (((iCol L).view.emb z) 0).val = (z 0).val := by
    show k1_off21 L 0 + 1 * (z 0).val = _
    rw [k1_off21_eq, Nat.one_mul]; exact Nat.zero_add _
  obtain ⟨hw', hj⟩ := col_eq L (z 1) _ h1
  unfold IDX idxB logits
  rw [hw', hj, h0]
  exact congrArg (fun x => pick (top x) _) (funext fun e => congrArg (FloatOps.addf · _) (xB_apply l d L e (z 1)))

/-- The tile's run: handed its pieces, it gives them back with its columns of the two results computed, its scratch and its semaphores as they
    were, and the waits it added all its own transfers'. -/
theorem tile_body (hF : (K (F := F)).Facts) (O : CellTallies nD τ sig (HIx 1)) (W : Waits sig (HIx 1)) (hO : ∀ g, O g none = 0) :
    iprop(levAts (K (F := F)).L (K (F := F)).lev ∗ emp ∗ pieceIn m l d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__route_body L lV (Memref.isWhole_whole _) bV (Memref.isWhole_whole _) oV (Memref.isWhole_whole _) iV (Memref.isWhole_whole _)
            sL (Memref.isWhole_whole _) sB (Memref.isWhole_whole _) sO (Memref.isWhole_whole _) sI (Memref.isWhole_whole _)
            cc1_scoped0 cc1_scoped1 cc1_scoped2 cc1_scoped3)
          fun _ => iprop(pieceOut m l d (wL L)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [(K (F := F)).scopedBufs_V hF d (cV L) (jV L), SparseCore.Cfg.scopedSems0_V (Val := Elt F) d (cV L) (jV L), ownSems0_V, ownBufs_V]
  unfold pieceIn piece
  iintro ⟨#Hlv, -, ⟨Hl, Hb, Ho, Hi⟩, ⟨⟨%f0, Hs0⟩, ⟨%f1, Hs1⟩, ⟨%f2, Hs2⟩, ⟨%f3, Hs3⟩, Hbufs⟩, ⟨Hm0, Hm1, Hm2, Hm3, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hl' := (Entails.of_eq (pts_l (F := F) d L _).symm) $$ Hl
  ihave Hb' := (Entails.of_eq (pts_b (F := F) d L _ _).symm) $$ Hb
  ihave Ho' := (Entails.of_eq (pts_o (F := F) d L _).symm) $$ Ho
  ihave Hi' := (Entails.of_eq (pts_i (F := F) d L _).symm) $$ Hi
  ihave Hs0' := (Entails.of_eq (pts_sL (F := F) d L _).symm) $$ Hs0
  ihave Hs1' := (Entails.of_eq (pts_sB (F := F) d L _).symm) $$ Hs1
  ihave Hs2' := (Entails.of_eq (pts_sO (F := F) d L _).symm) $$ Hs2
  ihave Hs3' := (Entails.of_eq (pts_sI (F := F) d L _).symm) $$ Hs3
  sl_unfold [cc1__route_body]
  sl_exec (disch := exact View.amount_pos _ _ (show 0 < S16x512.numel by decide))
  sl_for (inv (F := F) d L (xB l d L) (tile_body.sl.r m d L f1)) $$ [Hs0' Hs2' Hs3']
  case region =>
    intro k c
    exact trip d L (xB l d L) (tile_body.sl.r m d L f1) k c
  · unfold inv
    isplitl [Hs0']
    · iapply (Entails.of_eq (show _ = _ by rw [View.write_whole_univ]; rfl)) $$ Hs0'
    isplitl [Hs2']
    · iexists _; isplitr; swap; · iexact Hs2'
      ipureintro; intro y hy; omega
    · iexists _; isplitr; swap; · iexact Hs3'
      ipureintro; intro y hy; omega
  iintro %_ HI
  unfold inv
  icases HI with ⟨Hs0', ⟨%g2, %hg2, Hs2'⟩, ⟨%g3, %hg3, Hs3'⟩⟩
  sl_exec (disch := first | exact View.amount_pos _ _ (show 0 < S16x512.numel by decide) | exact View.amount_pos _ _ (show 0 < S2x512.numel by decide))
  have hr : tile_body.sl.r m d L f1 = m (bLoc d) := by
    unfold tile_body.sl.r
    rw [View.write_whole_univ]
    funext a
    show m (bLoc d) _ = m (bLoc d) a
    congr 1
    funext c
    match c with
    | 0 => exact Fin.ext (show 0 + 1 * (a 0).val = (a 0).val by omega)
  sl_step
  isplitl [Hl' Hb' Ho' Hi']
  · unfold pieceOut piece
    isplitl [Hl']; · iapply (Entails.of_eq (pts_l (F := F) d L _)) $$ Hl'
    isplitl [Hb']; · iapply (Entails.of_eq (pts_b (F := F) d L _ _)) $$ Hb'
    isplitl [Ho']
    · iapply (Entails.of_eq ((pointsTo_congr (out_eq l d L (m (oLoc d)) (tile_body.sl.dma0_2 d L g2) (m (bLoc d)) fun z => (hg2 z (z 1).isLt).trans (by rw [hr]))).trans
        (pts_o (F := F) d L _))) $$ Ho'
    · iapply (Entails.of_eq ((pointsTo_congr (idx_eq l d L (m (iLoc d)) (tile_body.sl.dma0_3 d L g3) (m (bLoc d)) fun z => (hg3 z (z 1).isLt).trans (by rw [hr]))).trans
        (pts_i (F := F) d L _))) $$ Hi'
  isplitl [Hs0' Hs1' Hs2' Hs3' Hbufs]
  · isplitl [Hs0']; · iexists _; iexact Hs0'
    isplitl [Hs1']; · iexists _; iexact Hs1'
    isplitl [Hs2']; · iexists _; iexact Hs2'
    isplitl [Hs3']; · iexists _; iexact Hs3'
    iexact Hbufs
  isplitl [Hm0 Hm1 Hm2 Hm3 Hsems]
  · isplitl [Hm0]; · iexact Hm0
    isplitl [Hm1]; · iexact Hm1
    isplitl [Hm2]; · iexact Hm2
    isplitl [Hm3]; · iexact Hm3
    iexact Hsems
  iexists _; isplitr; swap; · iexact HO
  ipureintro
  intro p hp
  simp only [Finset.mem_insert] at hp
  rcases hp with rfl | rfl | rfl | rfl | hp
  · exact .inr (.inl rfl)
  · exact .inr (.inl rfl)
  · exact .inr (.inl rfl)
  · exact .inr (.inl rfl)
  · exact .inl hp

/-- The grid's coordinates of tile `s` of SparseCore `c`. -/
def coordsV (c : Fin (grid1.bound 0)) (s : Fin (grid1.bound 1)) : grid1.Coords :=
  fun | 0 => c | 1 => s | ⟨_ + 2, h⟩ => absurd h (Nat.not_lt.2 (Nat.le_add_left _ _))

/-- The call's body on a tile is the kernel's at the tile's coordinates. -/
theorem defs₀_vector (c : Fin τ.nSC) (s : Fin τ.nSub) :
    defs₀ (F := F) (.scVector c s) 1 ()
      = SparseCore.onTile hcore1 hsub1 (fun c s => cc1__route_body (coordsV c s)
          lV (Memref.isWhole_whole _) bV (Memref.isWhole_whole _) oV (Memref.isWhole_whole _) iV (Memref.isWhole_whole _)
            sL (Memref.isWhole_whole _) sB (Memref.isWhole_whole _) sO (Memref.isWhole_whole _) sI (Memref.isWhole_whole _)
            cc1_scoped0 cc1_scoped1 cc1_scoped2 cc1_scoped3) ⟨⟩ c s := rfl

/-- The launch's duty about the tiles: each runs its body from what it is handed to what it gives back. -/
theorem tileObl (hF : (K (F := F)).Facts) : (K (F := F)).TileObl (D (F := F)) 𝒱 (P m l) v₀ 0 := by
  intro d c i O W hO _ _
  simp only [show (P m l).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m l d (coordsV ⟨_, hci.1⟩ ⟨_, hci.2⟩) hF O W hO

/-- A SparseCore's operands are its tiles', and its results theirs. -/
theorem vecSplit : (K (F := F)).VecSplit' (P m l) 0 := by
  intro d c
  show (bigSep Finset.univ fun s : Fin ((K (F := F)).nSub 0) => pieceIn m l d (wid (Fin.cast nCore_zero c) (Fin.cast nSub_zero s)))
    ⊢ iprop(|={Set.univ}=> ((bigSep Finset.univ fun s : Fin ((K (F := F)).nSub 0) => pieceIn m l d (wid (Fin.cast nCore_zero c) (Fin.cast nSub_zero s)))
      ∗ ((bigSep Finset.univ fun s : Fin ((K (F := F)).nSub 0) => pieceOut m l d (wid (Fin.cast nCore_zero c) (Fin.cast nSub_zero s)))
        -∗ (bigSep Finset.univ fun s : Fin ((K (F := F)).nSub 0) => pieceOut m l d (wid (Fin.cast nCore_zero c) (Fin.cast nSub_zero s))))))
  iintro H
  imodintro
  isplitl [H]
  · iexact H
  · iintro H
    iexact H

end Tile

end Cert.Proof

end
-- ==== Proof.Gate.lean ====
/- The gate product, the program's TensorCore call: sixteen grid points, each a block of 1024 tokens against the whole
   gate matrix. Its proof data, its body, and the call as a step of @main between the SparseCore launch's states. -/
module

public import proofs.«01_k».proof.Proof.Setup
public import proofs.«01_k».proof.Proof.Gen.KernelIdeal.Points
public import Idealize.ShloMosaic.Lib.Pipeline.FrameBody
public import Idealize.ShloMosaic.Lib.Pipeline.RegionArrays
public import Idealize.ShloMosaic.Lib.Pipeline.Value

@[expose] public section

set_option maxRecDepth 16384

noncomputable section

namespace Cert.Proof

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.Pipeline (Dat BodyObligation)

variable {F : FTy → Type} [FloatOps F]

local notation "𝕄" => MT nD τ sig (HIx 1) (Elt F) ℕ UU ℕ

variable (m : (ℓ : Loc nD τ sig) → Buf (Elt F) ℓ)

/-! ## The body -/

/-- What the launch has in window `w`'s array, -/
abbrev arr₀ (c : Dev nD) (w : Fin cfg0.W) : Buf (Elt F) ((cfg0.win w).arr.view.loc (c.tc : Thread nD τ)) :=
  m ((c.tc : Thread nD τ).loc (Pipeline.arrRef spec0 w))
/-- and its block at grid point `t`. -/
def blkAt (c : Dev nD) (w : Fin cfg0.W) (t : Fin cfg0.N) : ((cfg0.win w).xblock (cfg0.grid.coords t)).Idx → Elt F (cfg0.win w).elt :=
  ((cfg0.win w).blk t).view.read (Elt F) (arr₀ m c w)

/-- The rectangles the body touches: the gate matrix, the token block, -/
abbrev rW : Rect S16x2048 := Rect.unit (s := S16x2048) ![0, 0] S16x2048.size inb_S16x2048_S16x2048_0_0
abbrev rX : Rect S1024x2048 := Rect.unit (s := S1024x2048) ![0, 0] S1024x2048.size inb_S1024x2048_S1024x2048_0_0
/-- and the two planes of the result block. -/
abbrev rLo : Rect S2x16x512 := Rect.unit (s := S2x16x512) ![0, 0, 0] S1x16x512.size inb_S2x16x512_S1x16x512_0_0_0
abbrev rHi : Rect S2x16x512 := Rect.unit (s := S2x16x512) ![1, 0, 0] S1x16x512.size inb_S2x16x512_S1x16x512_1_0_0

/-- The two planes stored, the later first. -/
abbrev planes (x0 : Vec F S16x2048 .f32) (x1 : Vec F S1024x2048 .f32) : List (View.Piece (Elt F) S2x16x512 .f32) :=
  [⟨rHi, k0_pay3 (View.ld x0 rW) (View.ld x1 rX)⟩, ⟨rLo, k0_pay2 (View.ld x0 rW) (View.ld x1 rX)⟩]

/-- The result block after the body, from the gate matrix and the token block. -/
def gateBlk (x0 : Vec F S16x2048 .f32) (x1 : Vec F S1024x2048 .f32) : Vec F S2x16x512 .f32 := View.canon (planes x0 x1)

/-- The two planes are all of the block. -/
theorem planes_cover (p q : Vec F S1x16x512 .f32) (y : S2x16x512.Idx) :
    ∃ pc ∈ ([⟨rHi, p⟩, ⟨rLo, q⟩] : List (View.Piece (Elt F) S2x16x512 .f32)), y ∈ pc.1.set :=
  View.cover_of_tiled [⟨rHi, p⟩, ⟨rLo, q⟩] S1x16x512.size (by rfl) y

set_option maxHeartbeats 1000000 in
/-- The body, run on three whole buffers, reads the two inputs and leaves the third at `gateBlk` of them. -/
theorem gate_run (c : Dev nD) (i : grid0.Coords) (a1 : Memref sig .tc .vmem S16x2048 .f32) (h1 : a1.IsWhole) (a2 : Memref sig .tc .vmem S1024x2048 .f32) (h2 : a2.IsWhole)
    (a3 : Memref sig .tc .vmem S2x16x512 .f32) (h3 : a3.IsWhole) (x0 : Vec F S16x2048 .f32) (x1 : Vec F S1024x2048 .f32) (Q : PUnit → sProp 𝕄) :
    iprop(owns (c : Thread nD τ) a1 fullShare x0 ∗ owns (c : Thread nD τ) a2 fullShare x1 ∗ (∃ d, owns (c : Thread nD τ) a3 fullShare d)
        ∗ (iprop(owns (c : Thread nD τ) a1 fullShare x0 ∗ owns (c : Thread nD τ) a2 fullShare x1 ∗ owns (c : Thread nD τ) a3 fullShare (gateBlk x0 x1)) -∗ Q ⟨⟩))
      ⊢ wp frame (wpE (defs₀ (F := F)) 𝒱₀ c none) Set.univ (cc0__gate_matmul_body i a1 h1 a2 h2 a3 h3) Q := by
  simp only [cc0__gate_matmul_body_eq_skeleton]; unfold cc0__gate_matmul_body_skel
  unfold owns
  iintro ⟨⟨%f0, %e0, H0⟩, ⟨%f1, %e1, H1⟩, ⟨%d2, %f2, -, H2⟩, HQ⟩
  subst e0 e1
  sl_exec
  sl_step
  iapply HQ
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (planes_cover _ _)

/-! ## The pipeline's proof data -/

/-- The call's proof data: the arrays as launched, the input blocks left in place, the result block computed; the core
    owes throughout what the launch has it owe, and its recorded waits stay at level 0. -/
def gateDat (_ : Fin 1) (c : Dev nD) : Dat τ (Elt F) (HIx 1) ℕ UU ℕ cfg0 c where
  A w := arr₀ m c w
  after w t := match w with
    | ⟨0, _⟩ => blkAt m c 0 t
    | ⟨1, _⟩ => blkAt m c 1 t
    | ⟨2, _⟩ => gateBlk (blkAt m c 0 t) (blkAt m c 1 t)
  Φ _ := Pipeline.scopedRest spec0 c
  q _ := fullShare
  owed _ := (K (F := F)).Otc c 0
  recorded _ := {p | (K (F := F)).lev ((c : Thread nD τ), p.1) p.2 ≤ 0}

/-- The arrays are as launched, and after the body at each point: the gate matrix's block, the tokens' block, the result block. -/
theorem gate_A (c : Dev nD) (w : Fin cfg0.W) : (gateDat m 0 c).A w = arr₀ m c w := by dsimp only [gateDat]
theorem gate_after0 (c : Dev nD) (t : Fin cfg0.N) : (gateDat m 0 c).after 0 t = blkAt m c 0 t := by dsimp only [gateDat]
theorem gate_after1 (c : Dev nD) (t : Fin cfg0.N) : (gateDat m 0 c).after 1 t = blkAt m c 1 t := by dsimp only [gateDat]
theorem gate_after2 (c : Dev nD) (t : Fin cfg0.N) : (gateDat m 0 c).after 2 t = gateBlk (blkAt m c 0 t) (blkAt m c 1 t) := by dsimp only [gateDat]

/-- An input's buffer holds its block at every point. -/
theorem gate_before0 (c : Dev nD) (t : Fin cfg0.N) (d) : (gateDat m 0 c).before 0 t d = blkAt m c 0 t :=
  ((gateDat m 0 c).before_in_eq_fetched 0 rfl (fun _ => rfl) (fun _ _ _ => rfl)
    (fun t => by rw [gate_after0]; unfold Dat.blockOf blkAt; rw [gate_A]) t d).trans (by unfold Dat.fetched Dat.blockOf blkAt; rw [gate_A]; try rfl)
theorem gate_before1 (c : Dev nD) (t : Fin cfg0.N) (d) : (gateDat m 0 c).before 1 t d = blkAt m c 1 t :=
  ((gateDat m 0 c).before_in_eq_fetched 1 rfl (fun _ => rfl) (fun _ _ _ => rfl)
    (fun t => by rw [gate_after1]; unfold Dat.blockOf blkAt; rw [gate_A]) t d).trans (by unfold Dat.fetched Dat.blockOf blkAt; rw [gate_A]; try rfl)

/-- At every point the body takes the buffers as the pipeline brings them to what the proof data says. -/
theorem gate_point (c : Dev nD) (t : Fin cfg0.N) :
    iprop((gateDat m 0 c).Φ t.castSucc ∗ (gateDat m 0 c).owesAt none t.castSucc
      ∗ (∃ d, owns (c : Thread nD τ) (st0_0 t) fullShare ((gateDat m 0 c).before 0 t d))
      ∗ (∃ d, owns (c : Thread nD τ) (st0_1 t) fullShare ((gateDat m 0 c).before 1 t d))
      ∗ (∃ d, owns (c : Thread nD τ) (st0_2 t) fullShare ((gateDat m 0 c).before 2 t d)))
    ⊢ wp frame (wpE (defs₀ (F := F)) 𝒱₀ c none) Set.univ (bodyAt0 t) fun _ =>
      iprop((gateDat m 0 c).Φ t.succ ∗ (gateDat m 0 c).owesAt none t.succ
        ∗ owns (c : Thread nD τ) (st0_0 t) fullShare ((gateDat m 0 c).after 0 t)
        ∗ owns (c : Thread nD τ) (st0_1 t) fullShare ((gateDat m 0 c).after 1 t)
        ∗ owns (c : Thread nD τ) (st0_2 t) fullShare ((gateDat m 0 c).after 2 t)) := by
  unfold bodyAt0
  simp only [gate_before0, gate_before1]
  rw [show (gateDat m 0 c).Φ t.succ = (gateDat m 0 c).Φ t.castSucc from rfl,
    show (gateDat m 0 c).owesAt none t.succ = (gateDat m 0 c).owesAt none t.castSucc from rfl, gate_after0, gate_after1, gate_after2]
  iintro ⟨HΦ, HO, ⟨%d0, H0⟩, ⟨%d1, H1⟩, ⟨%d2, H2⟩⟩
  iapply (gate_run c (grid0.coords t) _ _ _ _ _ _ (blkAt m c 0 t) (blkAt m c 1 t) _)
  isplitl [H0]; · iexact H0
  isplitl [H1]; · iexact H1
  isplitl [H2]; · iexists _; iexact H2
  iintro ⟨H0, H1, H2⟩
  isplitl [HΦ]; · iexact HΦ
  isplitl [HO]; · iexact HO
  isplitl [H0]; · iexact H0
  isplitl [H1] <;> iassumption

/-- So the body meets the pipeline's obligation at every point. -/
theorem gate_body (c : Dev nD) : BodyObligation (gateDat (F := F) m 0 c) (defs₀ (F := F)) 𝒱₀ none Set.univ := fun t => by
  rw [bigSep_W0, bigSep_W0, show defs₀ (F := F) .tc cfg0.body (cfg0.bodyArgs t (cfg0.slots t)) = bodyAt0 t from rfl]
  exact triple_restated (gate_point m c t) rfl .rfl fun _ => .rfl

/-! ## The call -/

/-- The transposed logits the call leaves. -/
def lgt (c : Dev nD) : Buf (Elt F) (lLoc c) := (gateDat m 0 c).arrAt 2 cfg0.N

/-- The three arrays of the call, the result at contents `f`. -/
def gateArrs (c : Dev nD) (f : Buf (Elt F) (lLoc c)) : sProp 𝕄 :=
  iprop((wLoc c ↦{fullShare} m (wLoc c)) ∗ (xLoc c ↦{fullShare} m (xLoc c)) ∗ lLoc c ↦{fullShare} f)

/-- What the core owes before the SparseCore call, its recorded waits all at level 0. -/
def gateOwes (c : Dev nD) : sProp 𝕄 := iprop(∃ W, ⌜(K (F := F)).WBelow (SparseCore.T c) W 0⌝ ∗ owes (c : Thread nD τ) ((K (F := F)).Otc c 0) W)

/-- Every array is held whole. -/
theorem gate_share (c : Dev nD) (w) : (gateDat (F := F) m 0 c).share w = fullShare := (gateDat m 0 c).share_full (fun _ => rfl) w

/-- The call reads no table ahead of its grid. -/
abbrev adm (p : Fin 1) : (pcfgs (F := F) p).Adm := (cfgs p).toPCfg_adm

/-- The call as a step between thread states: from the arrays as launched to the result at `lgt`. -/
def gateSeg : Pipeline.RegionSeg pcfgs adm (gateDat (F := F) m) none (defs₀ (F := F)) 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (gate_body m c).loose
  hwaits c := Pipeline.cellsWaits_of_cut _ (gateDat m) none 0 c 0 ((K (F := F)).Otc c 0) (fun _ => rfl) (fun _ _ => Finset.mem_univ _) (fun _ _ => le_rfl)
    fun g i h => ⟨Finset.mem_univ _, (Nat.succ_pos _).trans_le ((K (F := F)).lev_of_Otc_pos h)⟩
  pre c := iprop(gateArrs m c (m (lLoc c)) ∗ gateOwes c)
  post c := iprop(gateArrs m c (lgt m c) ∗ gateOwes c)
  X _ := iprop(emp)
  Y _ := iprop(emp)
  Z _ := iprop(emp)
  hentry c := by
    rw [Pipeline.ownSems0_none, Pipeline.prefHeld_of_none _ rfl, Pipeline.arrays_eq _ (gateDat m) 0 c arr_whole0 (gate_share m c), bigSep_W0]
    unfold gateArrs gateOwes Dat.owesAt Pipeline.owesWithin
    iintro ⟨⟨⟨Hw, Hx, Hl⟩, %W, %hW, HO⟩, -, -⟩
    imodintro
    isplitl [Hw Hx Hl]
    · isplitl [Hw]; · iexact Hw
      isplitl [Hx]; · iexact Hx
      iexact Hl
    isplitr; · iempintro
    isplitl [HO]
    · iexists W; isplitr
      · ipureintro; exact fun p hp => Or.inl (hW p hp)
      iexact HO
    isplitr <;> iempintro
  hin c := by
    show iprop(_ ∗ _ ∗ Pipeline.scopedRest spec0 c) ⊢ (Pipeline.scopedRest spec0 c : sProp 𝕄)
    iintro ⟨-, -, H⟩; iexact H
  hout c := by
    rw [Pipeline.ownSems0_none]
    show (Pipeline.scopedRest spec0 c : sProp 𝕄) ⊢ iprop(_ ∗ _ ∗ Pipeline.scopedRest spec0 c)
    iintro H
    isplitr; · iempintro
    isplitr; · iempintro
    iexact H
  hexit c := by
    rw [Pipeline.arrays_eq _ (gateDat m) 0 c arr_whole0 (gate_share m c), bigSep_W0]
    unfold gateArrs gateOwes Dat.owesAt Pipeline.owesWithin
    iintro ⟨⟨Hw, Hx, Hl⟩, ⟨%W, %hW, HO⟩, -, -⟩
    imodintro
    isplitl [Hw Hx Hl]
    · isplitl [Hw]; · iapply (Entails.of_eq (congrArg (fun f => (wLoc c ↦{fullShare} f : sProp 𝕄)) (((gateDat m 0 c).arrAt_in 0 rfl _).trans (gate_A m c 0)))); iexact Hw
      isplitl [Hx]; · iapply (Entails.of_eq (congrArg (fun f => (xLoc c ↦{fullShare} f : sProp 𝕄)) (((gateDat m 0 c).arrAt_in 1 rfl _).trans (gate_A m c 1)))); iexact Hx
      iexact Hl
    iexists W; isplitr
    · ipureintro
      intro p hp
      rcases hW hp with h | ⟨w, s, rfl⟩
      · exact h
      · exact le_rfl
    iexact HO

/-- What the call takes, and what it leaves. -/
theorem gateSeg_pre (c : Dev nD) : (gateSeg (F := F) m).pre c = iprop(gateArrs m c (m (lLoc c)) ∗ gateOwes c) := rfl
theorem gateSeg_post (c : Dev nD) : (gateSeg (F := F) m).post c = iprop(gateArrs m c (lgt m c) ∗ gateOwes c) := rfl

end Cert.Proof

end
-- ==== Proof.Run.lean ====
/- The whole program's run: @main on the TensorCore — the gate product, the SparseCore call with its arrays cut into the
   thirty-two workers' pieces, the two transposes — and the launch about it. -/
module

public import proofs.«01_k».proof.Proof.Tile
public import proofs.«01_k».proof.Proof.Gate

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (ρ : Dev nD → PrngReg)

/-! ## The arrays cut among the workers -/

/-- Cutting an array by a number below 32 that each of its indices has. -/
theorem cut_disjoint {α : Type} [Fintype α] (f : α → ℕ) :
    ∀ w ∈ (Finset.univ : Finset (Fin 32)), ∀ w' ∈ (Finset.univ : Finset (Fin 32)), w ≠ w' →
      Disjoint (Finset.univ.filter fun y => f y = w.val) (Finset.univ.filter fun y => f y = w'.val) :=
  fun w _ w' _ hne => Finset.disjoint_left.mpr fun y h h' =>
    hne (Fin.ext ((Finset.mem_filter.mp h).2.symm.trans (Finset.mem_filter.mp h').2))

/-- Every element is in some worker's part. -/
theorem cut_cover {α : Type} [Fintype α] [DecidableEq α] (f : α → ℕ) (hf : ∀ y, f y < 32) :
    (Finset.univ : Finset (Fin 32)).biUnion (fun w => Finset.univ.filter fun y => f y = w.val) = Finset.univ :=
  Finset.eq_univ_of_forall fun y => Finset.mem_biUnion.mpr ⟨⟨f y, hf y⟩, Finset.mem_univ _, Finset.mem_filter.mpr ⟨Finset.mem_univ _, rfl⟩⟩

/-- The transposed logits whole are the workers' planes, -/
theorem l_cut (d : Dev nD) (f : Buf (Elt F) (lLoc d)) :
    (lLoc d ↦{fullShare} f : sProp 𝕄) = bigSep Finset.univ fun w : Fin 32 => lLoc d ↦[lSet w]{fullShare} f := by
  rw [← pointsTo_biUnion Finset.univ (ℓ := lLoc d) lSet (cut_disjoint fun y : S32x16x512.Idx => (y 0).val),
    cut_cover (fun y : S32x16x512.Idx => (y 0).val) fun y => (y 0).isLt]
/-- the probabilities their columns, -/
theorem o_cut (d : Dev nD) (f : Buf (Elt F) (oLoc d)) :
    (oLoc d ↦{fullShare} f : sProp 𝕄) = bigSep Finset.univ fun w : Fin 32 => oLoc d ↦[oSet w]{fullShare} f := by
  rw [← pointsTo_biUnion Finset.univ (ℓ := oLoc d) oSet (cut_disjoint fun y : S16x16384.Idx => (y 1).val / 512),
    cut_cover (fun y : S16x16384.Idx => (y 1).val / 512) fun y => by have : (y 1).val < 16384 := (y 1).isLt; omega]
/-- and so the expert numbers. -/
theorem i_cut (d : Dev nD) (f : Buf (Elt F) (iLoc d)) :
    (iLoc d ↦{fullShare} f : sProp 𝕄) = bigSep Finset.univ fun w : Fin 32 => iLoc d ↦[iSet w]{fullShare} f := by
  rw [← pointsTo_biUnion Finset.univ (ℓ := iLoc d) iSet (cut_disjoint fun y : S2x16384.Idx => (y 1).val / 512),
    cut_cover (fun y : S2x16384.Idx => (y 1).val / 512) fun y => by have : (y 1).val < 16384 := (y 1).isLt; omega]

/-- A worker's number from its core and tile, and back. -/
def widEquiv : Fin 2 × Fin 16 ≃ Fin 32 where
  toFun p := wid p.1 p.2
  invFun w := (⟨w.val % 2, by omega⟩, ⟨w.val / 2, by omega⟩)
  left_inv p := by
    obtain ⟨c, s⟩ := p
    refine Prod.ext (Fin.ext ?_) (Fin.ext ?_)
    · show (2 * s.val + c.val) % 2 = c.val; omega
    · show (2 * s.val + c.val) / 2 = s.val; omega
  right_inv w := Fin.ext (by show 2 * (w.val / 2) + w.val % 2 = w.val; omega)

/-- Over the workers is over the cores and their tiles. -/
theorem over_workers (Φ : Fin 32 → sProp 𝕄) :
    bigSep Finset.univ Φ = bigSep Finset.univ fun c : Fin 2 => bigSep Finset.univ fun s : Fin 16 => Φ (wid c s) := by
  rw [bigSep_univ_equiv widEquiv, ← Finset.univ_product_univ, SparseCore.bigSep_product]; rfl

/-- The four arrays whole are the workers' pieces of them. -/
theorem pieces (l : (d : Dev nD) → Buf (Elt F) (lLoc d)) (d : Dev nD) (fo : Buf (Elt F) (oLoc d)) (fi : Buf (Elt F) (iLoc d)) :
    (iprop((lLoc d ↦{fullShare} l d) ∗ (bLoc d ↦{fullShare} m (bLoc d)) ∗ (oLoc d ↦{fullShare} fo) ∗ iLoc d ↦{fullShare} fi) : sProp 𝕄)
      = bigSep Finset.univ fun c : Fin 2 => bigSep Finset.univ fun s : Fin 16 => piece m l d (wid c s) fo fi := by
  rw [← over_workers fun w => piece m l d w fo fi]
  unfold piece
  rw [bigSep_sep', bigSep_sep', bigSep_sep', ← l_cut, ← o_cut, ← i_cut,
    Transfers.pointsTo_deal (ℓ := bLoc d) (S := Finset.univ) (f := m (bLoc d)) (Finset.univ : Finset (Fin 32)) Finset.univ_nonempty fullShare]

variable [FloatOps F]

/-! ## The launch's ghost state -/

/-- The handshakes' cells, the pipeline's, and nothing yet of the tiles' transfers. -/
def u₀ : UU := (initOf (K (F := F)).hsCells (K (F := F)).hsToks,
  (initOf (Pipeline.cells (Pipeline.pin pcfgs (adm (F := F))) cellOf_inj) (Pipeline.launchToks (Pipeline.pin pcfgs (adm (F := F))) cellOf_inj), 1))

/-- What the launch deals the TensorCore of the pipeline's. -/
def gateGhost (d : Dev nD) : sProp 𝕄 :=
  iprop(Pipeline.cellsGhost (Pipeline.pin pcfgs (adm (F := F))) EP 0 d ∗ Pipeline.toksInit (Pipeline.pin pcfgs (adm (F := F))) EP 0 d)

omit [FloatOps F] in
/-- The ghost state splits into the handshakes' and the pipeline's. -/
theorem ownU_split (a : UH) (b : UP) : (ownU (a, (b, (1 : Counters))) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- The call gives the threads no ghost state besides the handshakes'. -/
theorem noGhost (l : (d : Dev nD) → Buf (Elt F) (lLoc d)) :
    (bigSep Finset.univ fun thr : Thread nD τ => bigSep Finset.univ fun q : Fin 1 => (P (F := F) m l).x q thr) = (iprop(emp) : sProp 𝕄) := by
  have h : ∀ thr : Thread nD τ, (bigSep Finset.univ fun q : Fin 1 => (P (F := F) m l).x q thr) = (iprop(emp) : sProp 𝕄) :=
    fun thr => bigSep_univ_of_subsingleton (0 : Fin 1)
  simp only [h]; exact bigSep_emp_const _

/-- The ghost state at the launch. -/
theorem hu₀ (l : (d : Dev nD) → Buf (Elt F) (lLoc d)) : (ownU (u₀ (F := F)) : sProp 𝕄)
    ⊢ |={Set.univ}=> iprop(BI.own (EH (initOf (K (F := F)).hsCells (K (F := F)).hsToks)) ∗ (bigSep Finset.univ fun d : Dev nD => gateGhost (F := F) d)
        ∗ bigSep Finset.univ fun thr : Thread nD τ => bigSep Finset.univ fun q : Fin 1 => (P m l).x q thr) := by
  unfold u₀ gateGhost
  rw [noGhost, bigSep_sep']
  iintro Hu
  ihave H := (ownU_split _ _) $$ Hu
  icases H with ⟨HH, HP⟩
  imod (Pipeline.fund_ghost (Pipeline.pin pcfgs (adm (F := F))) EP cellOf_inj) $$ HP with ⟨Hc, Ht⟩
  imodintro
  isplitl [HH]; · iexact HH
  isplitl [Hc Ht]
  · simp only [bigSep_univ_of_subsingleton (0 : Fin 1)]
    isplitl [Hc] <;> iassumption
  iempintro

/-! ## @main's steps -/

/-- The two results as @main leaves them, from the arrays the SparseCore call left. -/
abbrev outT (f : S16x16384.Idx → F .f32) : S16384x16.Idx → F .f32 := transpose S16384x16 [1, 0] f transposes_S16x16384_S16384x16_1_0
abbrev idxT (f : S2x16384.Idx → BitVec 32) : S16384x2.Idx → BitVec 32 := transpose S16384x2 [1, 0] f transposes_S2x16384_S16384x2_1_0

abbrev rLoc (d : Dev nD) : Loc nD τ sig := (SparseCore.T d).loc main_v2
abbrev jLoc (d : Dev nD) : Loc nD τ sig := (SparseCore.T d).loc main_v3

include m in
/-- A host operation of one operand, run from its two buffers. -/
theorem unary_step (d : Dev nD) (x y : Ref sig .tc) (hxy : (Proc.devRef .tc x : DevRef τ sig) ≠ Proc.devRef .tc y)
    (f : x.ty.Contents (Elt F) → y.ty.Contents (Elt F)) (hx hy) (fx : Buf (Elt F) ((SparseCore.T d).loc x)) (fy : Buf (Elt F) ((SparseCore.T d).loc y))
    {α : Type} (k) (Q : α → sProp 𝕄) :
    iprop(boundary (SparseCore.T d) ∗ ((SparseCore.T d).loc x ↦{fullShare} fx) ∗ (SparseCore.T d).loc y ↦{fullShare} fy)
      ⊢ iprop((∀ v, (boundary (SparseCore.T d) ∗ ((SparseCore.T d).loc x ↦{fullShare} fx) ∗ (SparseCore.T d).loc y ↦{fullShare} f fx)
            -∗ wp frame (wpE ((K (F := F)).defs (D (F := F))) 𝒱 (SparseCore.T d) none) Set.univ (k v) Q)
          -∗ wp frame (wpE ((K (F := F)).defs (D (F := F))) 𝒱 (SparseCore.T d) none) Set.univ (hlo rfl (StableHlo.unary x y f hx hy) k) Q) := by
  let W : Valuation τ sig (Elt F) := Function.update (Function.update (fun b => m (d, b)) (Proc.devRef .tc x) fx) (Proc.devRef .tc y) fy
  have hWx : W (Proc.devRef .tc x) = fx := (Function.update_of_ne hxy _ _).trans (Function.update_self _ _ _)
  have hWy : W (Proc.devRef .tc y) = fy := Function.update_self _ _ _
  have hh (W' : Valuation τ sig (Elt F)) : (held (T d) {Proc.devRef .tc x, Proc.devRef .tc y} W' : sProp 𝕄)
      = iprop(((SparseCore.T d).loc x ↦{fullShare} W' (Proc.devRef .tc x)) ∗ (SparseCore.T d).loc y ↦{fullShare} W' (Proc.devRef .tc y)) := by
    unfold held; rw [SparseCore.bigSep_insert' (by rwa [Finset.mem_singleton]), bigSep_singleton]
  have hr : (StableHlo.unary x y f hx hy).result W (Proc.devRef .tc x) = fx :=
    ((StableHlo.unary x y f hx hy).result_of_not_mem W (show _ ∉ ({Proc.devRef .tc y} : Finset (DevRef τ sig)) by rwa [Finset.mem_singleton])).trans hWx
  have hr' : (StableHlo.unary x y f hx hy).result W (Proc.devRef .tc y) = f fx := (StableHlo.unary_result x y f hx hy W).trans (congrArg f hWx)
  iintro ⟨Hb, Hx, Hy⟩ Hk
  iapply (wp_hlo_within 𝒱 (SparseCore.T d) none Set.univ (op := StableHlo.unary x y f hx hy)
    (S := {Proc.devRef .tc x, Proc.devRef .tc y}) (Finset.Subset.refl _) (V := W)) $$ [Hb Hx Hy]
  · isplitl [Hb]; · iexact Hb
    rw [hh, hWx, hWy]
    isplitl [Hx] <;> iassumption
  rw [hh, hr, hr']
  iintro H
  iapply Hk; iexact H

/-- The gate product as a step of @main: the three arrays in, the transposed logits out. -/
theorem gate_step (d : Dev nD) (Q : PUnit → sProp 𝕄) :
    iprop((boundary (SparseCore.T d) ∗ gateArrs m d (m (lLoc d)) ∗ gateOwes d) ∗ levAts (K (F := F)).L (K (F := F)).lev ∗ gateGhost d)
      ⊢ iprop(((boundary (SparseCore.T d) ∗ gateArrs m d (lgt m d) ∗ gateOwes d) -∗ Q ⟨⟩)
          -∗ wp frame (wpE ((K (F := F)).defs (D (F := F))) 𝒱 (SparseCore.T d) none) Set.univ (Prog.lift (.customCall (SparseCore.inner (Pipeline.entry 0)) ())) Q) := by
  unfold gateGhost
  rw [show (Prog.lift (.customCall (SparseCore.inner (Pipeline.entry 0)) ()) : Prog (TpuEff nD τ sig (Elt F) (SparseCore.Sig (ΛP (F := F)) 1) .tc) PUnit)
    = SparseCore.liftProg (.op (.customCall (Pipeline.entry 0) ()) .ret) from rfl]
  iintro ⟨⟨Hb, Ha, HO⟩, Hl, Hc, Ht⟩ HQ
  iapply ((K (F := F)).wp_liftProg (D (F := F)) 𝒱 (SparseCore.T d) Set.univ none (.op (.customCall (Pipeline.entry 0) ()) .ret) Q)
  iapply (Pipeline.RegionSeg.wp pcfgs (adm (F := F)) (gateDat m) none cellOf_inj EP (defs₀ (F := F)) 𝒱₀ (K (F := F)).L (K (F := F)).lev
    (gateSeg m) d none (fun _ h => nomatch h) .ret Q)
  isplitl [HQ]
  · iintro ⟨Hb, H⟩
    ihave H := (Entails.of_eq (gateSeg_post m d)) $$ H
    icases H with ⟨Ha, HO⟩
    rw [wp_ret]; imodintro
    iapply HQ
    isplitl [Hb]; · iexact Hb
    isplitl [Ha] <;> iassumption
  isplitl [Hb]; · iexact Hb
  isplitl [Ha HO]
  · iapply (Entails.of_eq (gateSeg_pre m d).symm)
    isplitl [Ha] <;> iassumption
  isplitl [Hl]; · iexact Hl
  isplitl [Hc] <;> iassumption

/-! ## @main -/

/-- The host's arrays, one by one. -/
theorem unscopedBufs_eq (d : Dev nD) (W : (b : Ref sig .tc) → Buf (Elt F) ((d.tc : Thread nD τ).loc b)) :
    (unscopedBufs d W : sProp 𝕄)
      = iprop((xLoc d ↦{fullShare} W main_arg0) ∗ (wLoc d ↦{fullShare} W main_arg1) ∗ (bLoc d ↦{fullShare} W main_arg2) ∗ (lLoc d ↦{fullShare} W main_v0)
          ∗ (oLoc d ↦{fullShare} W main_v1_0) ∗ (iLoc d ↦{fullShare} W main_v1_1) ∗ (rLoc d ↦{fullShare} W main_v2) ∗ jLoc d ↦{fullShare} W main_v3) := by
  unfold unscopedBufs
  rw [show (Finset.univ.filter fun b : Ref sig .tc => ¬ b.isScoped) = {main_arg0, main_arg1, main_arg2, main_v0, main_v1_0, main_v1_1, main_v2, main_v3} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- What the SparseCore call takes is the four arrays, its results as launched, -/
theorem st0_eq (d : Dev nD) : (bigSep Finset.univ fun c : Fin ((K (F := F)).nCore 0) => (P m (lgt m)).st 0 d c)
    = iprop((lLoc d ↦{fullShare} lgt m d) ∗ (bLoc d ↦{fullShare} m (bLoc d)) ∗ (oLoc d ↦{fullShare} m (oLoc d)) ∗ iLoc d ↦{fullShare} m (iLoc d)) :=
  (pieces m (lgt m) d _ _).symm
/-- and what it gives back is the four, its results computed. -/
theorem dn0_eq (d : Dev nD) : (bigSep Finset.univ fun c : Fin ((K (F := F)).nCore 0) => (P m (lgt m)).dn 0 d c)
    = iprop((lLoc d ↦{fullShare} lgt m d) ∗ (bLoc d ↦{fullShare} m (bLoc d)) ∗ (oLoc d ↦{fullShare} OUT (lgt m d) (m (bLoc d))) ∗ iLoc d ↦{fullShare} IDX (lgt m d) (m (bLoc d))) :=
  (pieces m (lgt m) d _ _).symm

/-- The two results @main returns, from its arguments. -/
abbrev outV (d : Dev nD) : Buf (Elt F) (rLoc d) := outT (OUT (lgt m d) (m (bLoc d)))
abbrev idxV (d : Dev nD) : Buf (Elt F) (jLoc d) := idxT (IDX (lgt m d) (m (bLoc d)))

/-- What @main leaves the claims: the arguments as launched, the two results. -/
abbrev FIN (d : Dev nD) : sProp 𝕄 :=
  iprop((xLoc d ↦{fullShare} m (xLoc d)) ∗ (wLoc d ↦{fullShare} m (wLoc d)) ∗ (bLoc d ↦{fullShare} m (bLoc d))
    ∗ (rLoc d ↦{fullShare} outV m d) ∗ jLoc d ↦{fullShare} idxV m d)

/-- @main on a device's TensorCore ends with its arguments as launched and its results computed. -/
theorem hmain (κ : GSem nD τ sig → ℕ) (d : Dev nD) :
    iprop((K (F := F)).ctx EH (P m (lgt m)) κ ∗ (K (F := F)).tcSt EH d 0 ∗ (K (F := F)).tcRes m ρ d ∗ gateGhost d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Hw, Hbi, Hl, Ho, Hi, Hr, Hj⟩, Hts, -⟩, Hg⟩
  ihave Hst' := (Entails.of_eq (show (K (F := F)).tcSt EH d 0 = iprop(gateOwes d ∗ _) from rfl)) $$ Hst
  icases Hst' with ⟨HO, Hst⟩
  ihave #Hlv := (SparseCore.Cfg.ctx_levAts κ) $$ Hctx
  iapply (gate_step m d _) $$ [Hb Hx Hw Hl HO Hg]
  · isplitr [Hg]
    · isplitl [Hb]; · iexact Hb
      isplitr [HO]
      · unfold gateArrs
        isplitl [Hw]; · iexact Hw
        isplitl [Hx]; · iexact Hx
        iexact Hl
      iexact HO
    isplitr; · iexact Hlv
    iexact Hg
  iintro ⟨Hb, Ha, HO⟩
  unfold gateArrs
  icases Ha with ⟨Hw, Hx, Hl⟩
  iapply ((K (F := F)).wp_run (D (F := F)) 𝒱 (EH := EH) (P := P m (lgt m)) κ d 0) $$ [HO Hst Hl Hbi Ho Hi Hb Hx Hw Hr Hj Hts]
  isplitr; · iexact Hctx
  isplitl [HO Hst]
  · iapply (Entails.of_eq (show iprop(gateOwes d ∗ _) = (K (F := F)).tcSt EH d 0 from rfl))
    isplitl [HO] <;> iassumption
  isplitl [Hl Hbi Ho Hi]
  · rw [st0_eq]
    isplitl [Hl]; · iexact Hl
    isplitl [Hbi]; · iexact Hbi
    isplitl [Ho] <;> iassumption
  iintro ⟨Hst, Hdn⟩
  ihave Hdn' := (Entails.of_eq (dn0_eq m d)) $$ Hdn
  icases Hdn' with ⟨-, Hbi, Ho, Hi⟩
  iapply (unary_step m d main_v1_0 main_v2 (by decide) _ _ _ (OUT (lgt m d) (m (bLoc d))) (m (rLoc d)) _ _) $$ [Hb Ho Hr]
  · isplitl [Hb]; · iexact Hb
    isplitl [Ho] <;> iassumption
  iintro %v ⟨Hb, -, Hr⟩
  rw [wp_ret]; imodintro
  iapply (unary_step m d main_v1_1 main_v3 (by decide) _ _ _ (IDX (lgt m d) (m (bLoc d))) (m (jLoc d)) _ _) $$ [Hb Hi Hj]
  · isplitl [Hb]; · iexact Hb
    isplitl [Hi] <;> iassumption
  iintro %v' ⟨Hb, -, Hj⟩
  rw [wp_ret]; imodintro; imodintro
  isplitl [Hst]; · iexact Hst
  isplitr [Hb Hts]
  · isplitl [Hx]; · iexact Hx
    isplitl [Hw]; · iexact Hw
    isplitl [Hbi]; · iexact Hbi
    isplitl [Hr] <;> iassumption
  isplitl [Hb] <;> iassumption

/-! ## The run -/

/-- What the claims read of the final memory, device by device: the arguments as launched, the two results. -/
def fq (d : Dev nD) (s : (ℓ : Loc nD τ sig) → Buf (Elt F) ℓ) : Prop :=
  s (xLoc d) = m (xLoc d) ∧ s (wLoc d) = m (wLoc d) ∧ s (bLoc d) = m (bLoc d) ∧ s (rLoc d) = outV m d ∧ s (jLoc d) = idxV m d

omit [FloatOps F] in
/-- A whole array held at known contents is at them in the state. -/
theorem reads {s' : Phys nD τ sig (Elt F)} {ℓ : Loc nD τ sig} (f : Buf (Elt F) ℓ) :
    iprop((ℓ ↦{fullShare} f) ∗ SI s') ⊢ (iprop(⌜s'.mem.mem ℓ = f⌝ ∗ SI s') : sProp 𝕄) := by
  iintro ⟨H, HSI⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr
  · ipureintro; exact funext fun i => h i (Finset.mem_univ i)
  iexact HSI

/-- What the host holds at its end is what the claims read. -/
theorem hfin (d : Dev nD) (s' : Phys nD τ sig (Elt F)) : iprop(FIN m d ∗ SI s') ⊢ (⌜fq m d s'.mem.mem⌝ : sProp 𝕄) := by
  iintro ⟨⟨Hx, Hw, Hbi, Hr, Hj⟩, HSI⟩
  ihave H := (reads (m (xLoc d))) $$ [Hx HSI]
  · isplitl [Hx] <;> iassumption
  icases H with ⟨%h1, HSI⟩
  ihave H := (reads (m (wLoc d))) $$ [Hw HSI]
  · isplitl [Hw] <;> iassumption
  icases H with ⟨%h2, HSI⟩
  ihave H := (reads (m (bLoc d))) $$ [Hbi HSI]
  · isplitl [Hbi] <;> iassumption
  icases H with ⟨%h3, HSI⟩
  ihave H := (reads (outV m d)) $$ [Hr HSI]
  · isplitl [Hr] <;> iassumption
  icases H with ⟨%h4, HSI⟩
  ihave H := (reads (idxV m d)) $$ [Hj HSI]
  · isplitl [Hj] <;> iassumption
  icases H with ⟨%h5, -⟩
  ipureintro; exact ⟨h1, h2, h3, h4, h5⟩

/-- Every fair execution of the program ends, its arguments unchanged, its results computed, every semaphore at zero. -/
theorem run_main [∀ e, Nonempty (Elt F e)] : θ_run (Cert.KernelIdeal.defs (F := F)) (Cert.KernelIdeal.threads (F := F)) ⟨m, fun _ => 0, ρ⟩
    fun r => (∀ d : Dev nD, fq m d r.2.mem) ∧ r.2.sem = fun _ => 0 :=
  SparseCore.Cfg.θ_run_sc_quiescent (K := K (F := F)) (D := D (F := F)) (𝒱 := 𝒱) (EH := EH) (P := P m (lgt m)) (A := ∅) facts v₀
    (fun q hq => match q with | 0 => nomatch hq)
    (fun q _ => match q with | 0 => tileObl m (lgt m) facts)
    (fun q _ => match q with | 0 => SparseCore.Cfg.VecSplit.of_plain (vecSplit m (lgt m)))
    m ρ main (gateGhost (F := F)) (FIN m) (u₀ (F := F)) (sep_elim_left.trans (hu₀ m (lgt m))) (hmain m ρ) (fun d s' => fq m d s'.mem.mem) (hfin m) _ (fun _ h hz => ⟨h, hz⟩)

end Cert.Proof

end
-- ==== Proof.Frames.lean ====
/- The frame claims of the kernel, as compiled and read over the extended reals. -/
module

public import proofs.«01_k».proof.Defs
public import proofs.«01_k».proof.Proof.Run
public import proofs.«01_k».proof.Proof.Gen.Kernel
public import proofs.«01_k».proof.Proof.Gen.ReferenceIdeal.Run
public import Idealize.ShloMosaic.Lib.Quiescent

@[expose] public section

noncomputable section

namespace Cert.Proof

open Idealize.ShloMosaic Idealize.SL.Sem

/-- The kernel over the extended reals runs, its arguments unchanged, every semaphore back at zero. -/
theorem frameIdeal : Cert.quiescent_KernelIdeal (hKernelIdeal := Cert.KernelIdeal.Gen.facts) := fun m g _ =>
  (θ_run Cert.KernelIdeal.defs _ _).mono (fun _ h => ⟨fun c => ⟨(h.1 c).1, (h.1 c).2.1, (h.1 c).2.2.1⟩, h.2⟩) (run_main (F := Ideal) m g)

section Same

variable {F : FTy → Type} [FloatOps F]

attribute [local instance] Cert.Kernel.Gen.facts Cert.KernelIdeal.Gen.facts

/-- The kernel as compiled and the kernel read over the extended reals have the same bodies. -/
theorem bodies_same : Cert.Kernel.defs₀ (F := F) = Cert.KernelIdeal.defs₀ (F := F) := by
  funext k l a
  match k, l, a with
  | .tc, 0, (_, _) => rfl
  | .tc, 1, _ => rfl
  | .scScalar _, 0, _ => rfl
  | .scScalar _, 1, _ => rfl
  | .scVector _ _, 0, _ => rfl
  | .scVector _ _, 1, _ => rfl

/-- They have the same body table. -/
theorem defs_same : Cert.Kernel.defs (F := F) = Cert.KernelIdeal.defs (F := F) :=
  congrArg (fun D => (Cert.KernelIdeal.sc (F := F)).defs (Pipeline.defs Cert.KernelIdeal.pcfgs D)) bodies_same

/-- They run the same program on the host. -/
theorem main_same : Cert.Kernel.main (F := F) = Cert.KernelIdeal.main (F := F) := rfl

/-- They run the same threads. -/
theorem threads_same : Cert.Kernel.threads (F := F) = Cert.KernelIdeal.threads (F := F) :=
  congrArg (Cert.KernelIdeal.sc (F := F)).threads main_same

end Same

/-- The kernel as compiled runs, its arguments unchanged, every semaphore back at zero: the two programs are one text. -/
theorem frameBits : Cert.quiescent_Kernel (hKernel := Cert.Kernel.Gen.facts) := by
  intro m g _
  rw [defs_same, threads_same]
  exact (θ_run (Cert.KernelIdeal.defs (F := Bits)) (Cert.KernelIdeal.threads (F := Bits)) ⟨m, fun _ => 0, g⟩).mono
    (fun _ h => ⟨fun c => ⟨(h.1 c).1, (h.1 c).2.1, (h.1 c).2.2.1⟩, h.2⟩) (run_main (F := Bits) m g)

/-- The reference runs, its arguments unchanged; it has no semaphore at all. -/
theorem frameReference : Cert.quiescent_ReferenceIdeal (hReferenceIdeal := Cert.ReferenceIdeal.Gen.facts) := fun m g _ =>
  (θ_run Cert.ReferenceIdeal.defs _ _).mono (fun r h => ⟨fun c => (h c).2.2, sem_eq_zero_of_no_sems (sig := Cert.ReferenceIdeal.sig) rfl r.2⟩)
    (Cert.ReferenceIdeal.Value.run (F := Ideal) m g)

end Cert.Proof

end
-- ==== Proof.GateValue.lean ====
/- What the gate product leaves in its array, over the extended reals: each token's dot products with the rows of the
   gate matrix. -/
module

public import proofs.«01_k».proof.Proof.Gate
public import Idealize.ShloMosaic.Lib.Pointwise

@[expose] public section

set_option maxRecDepth 16384

noncomputable section

namespace Cert.Proof

open Cert.KernelIdeal Cert.KernelIdeal.Gen

open Idealize.ShloMosaic Idealize.ShloMosaic.TcCoe

/-- The product's element. -/
theorem pay1_at (x0 : Vec Ideal S16x2048 .f32) (x1 : Vec Ideal S1024x2048 .f32) (e : Fin 16) (r : Fin 1024) :
    k0_pay1 (F := Ideal) x0 x1 (ix2 e r) = ∑ k : Fin 2048, x0 (ix2 e k) * x1 (ix2 r k) := by
  unfold k0_pay1
  pointwise

/-- The first plane's element: the block's first 512 tokens. -/
theorem pay2_at (x0 : Vec Ideal S16x2048 .f32) (x1 : Vec Ideal S1024x2048 .f32) (p : Fin 1) (e : Fin 16) (j : Fin 512) :
    k0_pay2 (F := Ideal) x0 x1 (ix3 p e j) = ∑ k : Fin 2048, x0 (ix2 e k) * x1 (ix2 ⟨j.val, by omega⟩ k) := by
  unfold k0_pay2
  pointwise
  exact pay1_at x0 x1 e _

/-- The second plane's element: the block's last 512 tokens. -/
theorem pay3_at (x0 : Vec Ideal S16x2048 .f32) (x1 : Vec Ideal S1024x2048 .f32) (p : Fin 1) (e : Fin 16) (j : Fin 512) :
    k0_pay3 (F := Ideal) x0 x1 (ix3 p e j) = ∑ k : Fin 2048, x0 (ix2 e k) * x1 (ix2 ⟨512 + j.val, by omega⟩ k) := by
  unfold k0_pay3
  pointwise
  exact pay1_at x0 x1 e _

variable (m : (ℓ : Loc nD τ sig) → Buf (Elt Ideal) ℓ)

/-- Sixteen grid points. -/
theorem points (t : Fin cfg0.N) : t.val < 16 := t.isLt

/-- The gate matrix's block lies at the origin at every point. -/
theorem index0 : ∀ (t : Fin cfg0.N) (a : Fin 2), win0_0.index t a = 0 :=
  (by decide +kernel : ∀ (t : Fin grid0.N) (a : Fin 2), win0_0.index t a = 0)
/-- The tokens' blocks lie at the point's number, from column 0. -/
theorem index1 : ∀ t : Fin cfg0.N, win0_1.index t 0 = t.val ∧ win0_1.index t 1 = 0 :=
  (by decide +kernel : ∀ t : Fin grid0.N, win0_1.index t 0 = t.val ∧ win0_1.index t 1 = 0)
/-- The result's blocks lie at the point's number of planes, from row and column 0. -/
theorem index2 : ∀ t : Fin cfg0.N, win0_2.index t 0 = t.val ∧ win0_2.index t 1 = 0 ∧ win0_2.index t 2 = 0 :=
  (by decide +kernel : ∀ t : Fin grid0.N, win0_2.index t 0 = t.val ∧ win0_2.index t 1 = 0 ∧ win0_2.index t 2 = 0)

/-- A grid point's block of the gate matrix: all of it. -/
theorem blk0_at (c : Dev nD) (t : Fin cfg0.N) (e : Fin 16) (k : Fin 2048) :
    blkAt m c 0 t (ix2 e k) = m ((c.tc : Thread nD τ).loc main_arg1) (ix2 e k) := by
  unfold blkAt
  rw [View.read_apply]
  refine (cast_eq _ _).trans (congrArg (m ((c.tc : Thread nD τ).loc main_arg1)) (funext fun a => Fin.ext ?_))
  match a with
  | ⟨0, _⟩ =>
    have h := index0 t 0
    change win0_0.index t 0 * 16 + 1 * e.val = e.val
    omega
  | ⟨1, _⟩ =>
    have h := index0 t 1
    change win0_0.index t 1 * 2048 + 1 * k.val = k.val
    omega

/-- A grid point's block of tokens: 1024 of them from the point's first. -/
theorem blk1_at (c : Dev nD) (t : Fin cfg0.N) (r : Fin 1024) (k : Fin 2048) :
    blkAt m c 1 t (ix2 r k) = m ((c.tc : Thread nD τ).loc main_arg0) (ix2 (⟨1024 * t.val + r.val, by have := points t; omega⟩ : Fin 16384) k) := by
  unfold blkAt
  rw [View.read_apply]
  refine (cast_eq _ _).trans (congrArg (m ((c.tc : Thread nD τ).loc main_arg0)) (funext fun a => Fin.ext ?_))
  match a with
  | ⟨0, _⟩ =>
    have h := (index1 t).1
    change win0_1.index t 0 * 1024 + 1 * r.val = 1024 * t.val + r.val
    omega
  | ⟨1, _⟩ =>
    have h := (index1 t).2
    change win0_1.index t 1 * 2048 + 1 * k.val = k.val
    omega

/-! ## The result block, and the array -/

/-- The dot products of the rows of a token array with the rows of a gate matrix, 512 tokens to a plane. -/
def dots {P N : ℕ} (h : P * 512 = N) (x0 : (⟨2, ![16, 2048]⟩ : Shape).Idx → EReal) (x1 : (⟨2, ![N, 2048]⟩ : Shape).Idx → EReal)
    (y : (⟨3, ![P, 16, 512]⟩ : Shape).Idx) : EReal :=
  ∑ k : Fin 2048, x0 (ix2 (y 1) k) * x1 (ix2 (⟨512 * (y 0).val + (y 2).val, by
    have h0 : (y 0).val < P := (y 0).isLt
    have h2 : (y 2).val < 512 := (y 2).isLt
    omega⟩ : Fin N) k)

/-- An element of them, its row and its token named. -/
theorem dots_eq {P N : ℕ} (h : P * 512 = N) (x0 : (⟨2, ![16, 2048]⟩ : Shape).Idx → EReal) (x1 : (⟨2, ![N, 2048]⟩ : Shape).Idx → EReal)
    (y : (⟨3, ![P, 16, 512]⟩ : Shape).Idx) (e : Fin 16) (r : Fin N) (he : (y 1).val = e.val) (hr : 512 * (y 0).val + (y 2).val = r.val) :
    dots h x0 x1 y = ∑ k : Fin 2048, x0 (ix2 e k) * x1 (ix2 r k) := by
  obtain rfl : y 1 = e := Fin.ext he
  unfold dots
  exact Finset.sum_congr rfl fun k _ => congrArg (fun r => x0 (ix2 (y 1) k) * x1 (ix2 r k)) (Fin.ext hr)

/-- The block the body leaves holds the dot products of the block of tokens. -/
theorem gateBlk_at (x0 : Vec Ideal S16x2048 .f32) (x1 : Vec Ideal S1024x2048 .f32) (y : S2x16x512.Idx) :
    gateBlk (F := Ideal) x0 x1 y = dots (P := 2) rfl x0 x1 y := by
  unfold gateBlk planes
  rw [View.ld_unit_zero (funext (by decide)) _ x0, View.ld_unit_zero (funext (by decide)) _ x1]
  refine View.canon_apply_of_pieces (Val := Elt Ideal) (e := .f32) (dots (P := 2) rfl x0 x1) _ (fun pc hpc => ?_) y (planes_cover _ _ y)
  rcases List.mem_cons.mp hpc with rfl | hpc
  · intro z
    have h0 : (z 0).val < 1 := (z 0).isLt
    rw [eq_ix3 z]
    refine (pay3_at x0 x1 (z 0) (z 1) (z 2)).trans (dots_eq (P := 2) (N := 1024) rfl x0 x1 _ _ _ ?_ ?_).symm
    · change 0 + 1 * (z 1).val = (z 1).val
      omega
    · change 512 * (1 + 1 * (z 0).val) + (0 + 1 * (z 2).val) = 512 + (z 2).val
      omega
  rcases List.mem_cons.mp hpc with rfl | hpc
  · intro z
    have h0 : (z 0).val < 1 := (z 0).isLt
    rw [eq_ix3 z]
    refine (pay2_at x0 x1 (z 0) (z 1) (z 2)).trans (dots_eq (P := 2) (N := 1024) rfl x0 x1 _ _ _ ?_ ?_).symm
    · change 0 + 1 * (z 1).val = (z 1).val
      omega
    · change 512 * (0 + 1 * (z 0).val) + (0 + 1 * (z 2).val) = (z 2).val
      omega
  nomatch hpc

/-- The array after the call holds the dot products of all tokens. -/
theorem lgt_at (c : Dev nD) : lgt m c = dots (P := 32) rfl (m ((c.tc : Thread nD τ).loc main_arg1)) (m ((c.tc : Thread nD τ).loc main_arg0)) := by
  unfold lgt
  refine (gateDat m 0 c).arrAt_eq_of_cover 2 _ (fun t _ => ?_) (fun i => ?_)
  · change (cfg0.win 2).cut (grid0.coords t) ((gateDat m 0 c).after 2 t) = _
    rw [gate_after2]
    funext y
    have ht := points t
    have h0 : (y 0).val < 2 := (y 0).isLt
    have h1 : (y 1).val < 16 := (y 1).isLt
    have h2 : (y 2).val < 512 := (y 2).isLt
    have hx := index2 t
    rw [View.read_apply]
    refine (gateBlk_at _ _ _).trans ((dots_eq rfl _ _ _ ⟨(y 1).val, h1⟩ ⟨512 * (y 0).val + (y 2).val, by omega⟩ ?_ ?_).trans ?_)
    · rfl
    · rfl
    refine Eq.trans ?_ ((cast_eq _ _).trans (dots_eq rfl _ _ _ ⟨(y 1).val, h1⟩ ⟨1024 * t.val + (512 * (y 0).val + (y 2).val), by omega⟩ ?_ ?_)).symm
    · exact Finset.sum_congr rfl fun k _ => by rw [blk0_at, blk1_at]
    · change win0_2.index t 1 * 16 + 1 * (y 1).val = (y 1).val
      omega
    · change 512 * (win0_2.index t 0 * 2 + 1 * (y 0).val) + (win0_2.index t 2 * 512 + 1 * (y 2).val) = 1024 * t.val + (512 * (y 0).val + (y 2).val)
      omega
  · have h0 : (i 0).val < 32 := (i 0).isLt
    let t : Fin cfg0.N := ⟨(i 0).val / 2, by show _ < 16; omega⟩
    have hx := index2 t
    have ht : t.val = (i 0).val / 2 := rfl
    let y : S2x16x512.Idx := ix3 ⟨(i 0).val % 2, by omega⟩ (i 1) (i 2)
    have e : ((cfg0.win 2).blk t).view.emb y = i := by
      funext a
      match a with
      | ⟨0, _⟩ =>
        refine Fin.ext ?_
        change win0_2.index t 0 * 2 + 1 * ((i 0).val % 2) = (i 0).val
        omega
      | ⟨1, _⟩ =>
        refine Fin.ext ?_
        change win0_2.index t 1 * 16 + 1 * (i 1).val = (i 1).val
        omega
      | ⟨2, _⟩ =>
        refine Fin.ext ?_
        change win0_2.index t 2 * 512 + 1 * (i 2).val = (i 2).val
        omega
    have h := ((cfg0.win 2).blk t).view.emb_mem_set y
    rw [e] at h
    exact ⟨t, flush0_2 _, h⟩

end Cert.Proof

end
-- ==== Proof.Best.lean ====
/- The tournament over the extended reals: it finds the two positions that a stable sort, greatest first, puts in front. -/
module

public import proofs.«01_k».proof.Proof.Lanes
public import Idealize.ShloMosaic.PureOps.Ideal
public import Idealize.ShloMosaic.Lib.SortPrefix

@[expose] public section

noncomputable section

namespace Cert.Proof

open Idealize.ShloMosaic

/-- A choice by a strict comparison of two extended reals. -/
theorem select_ogt {α : Type} (a b : Ideal .f32) (u v : α) :
    Scalar.select (FloatOps.cmpf .ogt b a) u v = if (a : EReal) < b then u else v := by
  show (if BitVec.ofBool (decide ((a : EReal) < b)) = 1#1 then u else v) = _
  by_cases h : (a : EReal) < b <;> simp [h]

/-! ## The order of the positions -/

/-- Position `i` goes before position `j`: its logit is greater, or the same and the position earlier. -/
def Ahead (x : Fin 16 → EReal) (i j : Fin 16) : Prop := x j < x i ∨ (x i = x j ∧ i < j)

variable {x : Fin 16 → EReal}

/-- Being ahead is transitive. -/
theorem Ahead.trans {i j k : Fin 16} (h : Ahead x i j) (h' : Ahead x j k) : Ahead x i k := by
  rcases h with h | ⟨e, h⟩ <;> rcases h' with h' | ⟨e', h'⟩
  · exact .inl (h'.trans h)
  · exact .inl (e' ▸ h)
  · exact .inl (e ▸ h')
  · exact .inr ⟨e.trans e', h.trans h'⟩

/-- No position is ahead of itself. -/
theorem Ahead.ne {i j : Fin 16} (h : Ahead x i j) : i ≠ j := by
  rintro rfl
  rcases h with h | ⟨_, h⟩ <;> exact lt_irrefl _ h

/-- The position ahead has the greater logit, or an equal one. -/
theorem Ahead.le {i j : Fin 16} (h : Ahead x i j) : x j ≤ x i := by
  rcases h with h | ⟨e, _⟩
  · exact h.le
  · exact e.ge

/-- Of two positions the earlier goes first unless the later one's logit is strictly greater. -/
theorem ahead_of_lt {i j : Fin 16} (hij : i < j) (h : ¬ x i < x j) : Ahead x i j := by
  rcases lt_or_eq_of_le (not_lt.mp h) with h | h
  · exact .inl h
  · exact .inr ⟨h.symm, hij⟩

/-- Of two positions one is ahead. -/
theorem ahead_or {i j : Fin 16} (h : i ≠ j) : Ahead x i j ∨ Ahead x j i := by
  rcases lt_or_gt_of_ne h with h | h
  · by_cases g : x i < x j
    · exact .inr (.inl g)
    · exact .inl (ahead_of_lt h g)
  · by_cases g : x j < x i
    · exact .inl (.inl g)
    · exact .inr (ahead_of_lt h g)

/-- Of two positions only one is ahead. -/
theorem Ahead.asymm {i j : Fin 16} (h : Ahead x i j) : ¬ Ahead x j i := fun h' => (h.trans h').ne rfl

/-! ## The tournament's groups -/

/-- Positions `a` and `b` are the first two of the positions from `lo` to `hi`. -/
structure Two (x : Fin 16 → EReal) (lo hi : ℕ) (a b : Fin 16) : Prop where
  ina : lo ≤ a.val ∧ a.val < hi
  inb : lo ≤ b.val ∧ b.val < hi
  ab : Ahead x a b
  rest : ∀ c : Fin 16, lo ≤ c.val → c.val < hi → c ≠ a → c ≠ b → Ahead x b c

/-- The group `t` holds the logits of the positions `a` and `b`, and their numbers. -/
structure Holds (x : Fin 16 → EReal) (t : Top Ideal) (a b : Fin 16) : Prop where
  m1 : t.m1 = x a
  i1 : t.i1 = BitVec.ofNat 32 a.val
  m2 : t.m2 = x b
  i2 : t.i2 = BitVec.ofNat 32 b.val

/-- The group `t` holds the first two of the positions from `lo` to `hi`. -/
def Best (x : Fin 16 → EReal) (lo hi : ℕ) (t : Top Ideal) : Prop := ∃ a b, Two x lo hi a b ∧ Holds x t a b

/-- A pair of neighbours. -/
theorem best_leaf (a b : Fin 16) (hb : b.val = a.val + 1) :
    Best x a.val (a.val + 2) (leaf (F := Ideal) (x a) (x b) (BitVec.ofNat 32 a.val) (BitVec.ofNat 32 b.val)) := by
  have hab : a < b := Fin.lt_def.mpr (by omega)
  have only : ∀ c : Fin 16, a.val ≤ c.val → c.val < a.val + 2 → c ≠ a → c ≠ b → False := fun c h1 h2 h3 h4 => by
    have h5 : c.val ≠ a.val := fun h => h3 (Fin.ext h)
    have h6 : c.val ≠ b.val := fun h => h4 (Fin.ext h)
    omega
  by_cases h : x a < x b
  · refine ⟨b, a, ⟨⟨by omega, by omega⟩, ⟨by omega, by omega⟩, .inl h, fun c h1 h2 h3 h4 => (only c h1 h2 h4 h3).elim⟩, ?_⟩
    constructor <;> simp only [leaf, select_ogt, if_pos h]
  · refine ⟨a, b, ⟨⟨by omega, by omega⟩, ⟨by omega, by omega⟩, ahead_of_lt hab h, fun c h1 h2 h3 h4 => (only c h1 h2 h3 h4).elim⟩, ?_⟩
    constructor <;> simp only [leaf, select_ogt, if_neg h]

/-- The first two of two groups, the second group's first in front: the other is whichever of `d` and `a` goes first. -/
theorem two_merge {lo mid hi : ℕ} {a b c d u v w z : Fin 16} (P : Two x lo mid a b) (Q : Two x mid hi c d) (hl : lo ≤ mid) (hh : mid ≤ hi)
    (hu : (u = a ∧ v = b ∧ w = c ∧ z = d) ∨ (u = c ∧ v = d ∧ w = a ∧ z = b)) :
    (Ahead x u w → Ahead x v w → Two x lo hi u v) ∧ (Ahead x u w → Ahead x w v → Two x lo hi u w) := by
  have key : ∀ e : Fin 16, lo ≤ e.val → e.val < hi → e = a ∨ e = b ∨ e = c ∨ e = d ∨ Ahead x b e ∨ Ahead x d e := fun e h1 h2 => by
    by_cases ha : e = a
    · exact .inl ha
    by_cases hb : e = b
    · exact .inr (.inl hb)
    by_cases hc : e = c
    · exact .inr (.inr (.inl hc))
    by_cases hd : e = d
    · exact .inr (.inr (.inr (.inl hd)))
    by_cases hm : e.val < mid
    · exact .inr (.inr (.inr (.inr (.inl (P.rest e h1 hm ha hb)))))
    · exact .inr (.inr (.inr (.inr (.inr (Q.rest e (by omega) h2 hc hd)))))
  have ia := P.ina; have ib := P.inb; have ic := Q.ina; have id := Q.inb
  have ab := P.ab; have cd := Q.ab
  rcases hu with ⟨rfl, rfl, rfl, rfl⟩ | ⟨rfl, rfl, rfl, rfl⟩
  all_goals
    refine ⟨fun g g' => ⟨⟨by omega, by omega⟩, ⟨by omega, by omega⟩, by assumption, fun e h1 h2 h3 h4 => ?_⟩,
      fun g g' => ⟨⟨by omega, by omega⟩, ⟨by omega, by omega⟩, g, fun e h1 h2 h3 h4 => ?_⟩⟩
    all_goals
      rcases key e h1 h2 with h | h | h | h | h | h
      all_goals first
        | exact (h3 h).elim
        | exact (h4 h).elim
        | exact h ▸ g'
        | exact h ▸ (by assumption)
        | exact h ▸ (g'.trans (by assumption))
        | exact h
        | exact g'.trans h
        | exact (by assumption : Ahead x _ _).trans h
        | exact (g'.trans (by assumption : Ahead x _ _)).trans h

/-- Two groups merged, the positions of the one before those of the other. -/
theorem best_merge {lo mid hi : ℕ} {p q : Top Ideal} (hp : Best x lo mid p) (hq : Best x mid hi q) (hl : lo ≤ mid) (hh : mid ≤ hi) :
    Best x lo hi (merge p q) := by
  obtain ⟨a, b, P, hp⟩ := hp
  obtain ⟨c, d, Q, hq⟩ := hq
  have before : ∀ {i j : Fin 16}, i.val < mid → mid ≤ j.val → i < j := fun h1 h2 => Fin.lt_def.mpr (by omega)
  have m1 := two_merge P Q hl hh (.inl ⟨rfl, rfl, rfl, rfl⟩)
  have m2 := two_merge P Q hl hh (.inr ⟨rfl, rfl, rfl, rfl⟩)
  by_cases h : x a < x c
  · by_cases g : x a < x d
    · refine ⟨c, d, m2.1 (.inl h) (.inl g), ?_⟩
      constructor <;> simp only [merge, select_ogt, hp.m1, hp.i1, hq.m1, hq.i1, hq.m2, hq.i2, if_pos h, if_pos g]
    · refine ⟨c, a, m2.2 (.inl h) (ahead_of_lt (before P.ina.2 Q.inb.1) g), ?_⟩
      constructor <;> simp only [merge, select_ogt, hp.m1, hp.i1, hq.m1, hq.i1, hq.m2, hq.i2, if_pos h, if_neg g]
  · have h' := ahead_of_lt (before P.ina.2 Q.ina.1) h
    by_cases g : x b < x c
    · refine ⟨a, c, m1.2 h' (.inl g), ?_⟩
      constructor <;> simp only [merge, select_ogt, hp.m1, hp.i1, hp.m2, hp.i2, hq.m1, hq.i1, if_neg h, if_pos g]
    · refine ⟨a, b, m1.1 h' (ahead_of_lt (before P.inb.2 Q.ina.1) g), ?_⟩
      constructor <;> simp only [merge, select_ogt, hp.m1, hp.i1, hp.m2, hp.i2, hq.m1, hq.i1, if_neg h, if_neg g]

/-- The tournament finds the first two of all sixteen positions. -/
theorem best_top (x : Fin 16 → EReal) : Best x 0 16 (top (F := Ideal) x) :=
  have b8 : ∀ p q r s : Top Ideal, ∀ n : ℕ, Best x n (n + 2) p → Best x (n + 2) (n + 4) q → Best x (n + 4) (n + 6) r → Best x (n + 6) (n + 8) s →
      Best x n (n + 8) (merge (merge p q) (merge r s)) := fun _ _ _ _ n hp hq hr hs =>
    best_merge (best_merge hp hq (by omega) (by omega)) (best_merge hr hs (by omega) (by omega)) (by omega) (by omega)
  best_merge (b8 _ _ _ _ 0 (best_leaf 0 1 rfl) (best_leaf 2 3 rfl) (best_leaf 4 5 rfl) (best_leaf 6 7 rfl))
    (b8 _ _ _ _ 8 (best_leaf 8 9 rfl) (best_leaf 10 11 rfl) (best_leaf 12 13 rfl) (best_leaf 14 15 rfl)) (by omega) (by omega)

/-! ## The stable sort -/

/-- On a list of ascending positions a stable sort asks only whether a later position goes before an earlier one. -/
theorem stableSort_ascending {n : ℕ} {R S : Fin n → Fin n → Bool} (h : ∀ a b, a < b → R b a = S b a) :
    ∀ l : List (Fin n), l.Pairwise (· < ·) → stableSort R l = stableSort S l
  | [], _ => rfl
  | a :: l, hl => by
    have hl' := List.pairwise_cons.mp hl
    unfold stableSort
    rw [stableSort_ascending h l hl'.2]
    exact insertBefore_congr R S a _ fun b hb => h a b (hl'.1 b ((perm_stableSort S l).mem_iff.mp hb))

/-- So its order of the positions does. -/
theorem sortedFrom_ascending {n : ℕ} {R S : Fin n → Fin n → Bool} (h : ∀ a b, a < b → R b a = S b a) : sortedFrom R = sortedFrom S := by
  have e : sortPositions n R = sortPositions n S := stableSort_ascending h _ (List.pairwise_lt_finRange n)
  funext k
  unfold sortedFrom
  rw [List.get_of_eq e]
  rfl

/-- The first two positions of the stable sort by the logits, greatest first. -/
theorem sortedFrom_two {a b : Fin 16} (h : Two x 0 16 a b) (R : Fin 16 → Fin 16 → Bool) (hR : ∀ i j, R i j = decide (x j < x i)) :
    sortedFrom R 0 = a ∧ sortedFrom R 1 = b := by
  classical
  have hB : StrictTotalBefore fun i j : Fin 16 => decide (Ahead x i j) :=
    ⟨fun i => decide_eq_false fun h => h.ne rfl,
      fun i j k h h' => decide_eq_true ((of_decide_eq_true h).trans (of_decide_eq_true h')),
      fun i j h => (ahead_or h).imp decide_eq_true decide_eq_true⟩
  have same : sortedFrom R = sortedFrom fun i j : Fin 16 => decide (Ahead x i j) :=
    sortedFrom_ascending fun i j hij => (hR j i).trans (decide_eq_decide.mpr
      ⟨.inl, fun h => h.resolve_right fun h => absurd h.2 (not_lt.mpr hij.le)⟩)
  have two := hB.sortedFrom_eq_of_prefix (k := 2) (by omega) ![a, b]
    (by
      intro i j hij
      fin_cases i <;> fin_cases j
      · rfl
      · exact (h.ab.ne hij).elim
      · exact (h.ab.ne hij.symm).elim
      · rfl)
    (by
      intro i j hij
      fin_cases i <;> fin_cases j
      · exact absurd hij (by decide)
      · exact decide_eq_false h.ab.asymm
      · exact absurd hij (by decide)
      · exact absurd hij (by decide))
    (by
      intro i p hp
      have hr := h.rest p (Nat.zero_le _) p.isLt (fun e => hp 0 e.symm) (fun e => hp 1 e.symm)
      fin_cases i
      · exact decide_eq_false (h.ab.trans hr).asymm
      · exact decide_eq_false hr.asymm)
  rw [same]
  have e0 : (0 : Fin 2).castLE (by omega : 2 ≤ 16) = 0 := by decide
  have e1 : (1 : Fin 2).castLE (by omega : 2 ≤ 16) = 1 := by decide
  have t0 := two 0
  have t1 := two 1
  rw [e0] at t0
  rw [e1] at t1
  exact ⟨t0.trans rfl, t1.trans rfl⟩

end Cert.Proof

end
-- ==== Proof.Reference.lean ====
/- The reference over the extended reals, read row by row. -/
module

public import proofs.«01_k».proof.Proof.Best
public import proofs.«01_k».proof.Proof.Gen.ReferenceIdeal.Run
public import Idealize.ShloMosaic.Lib.Routing.OpsPair
public import Idealize.ShloMosaic.Lib.Routing.OpsSet
public import Idealize.ShloMosaic.Lib.Pipeline.Value
public import Idealize.ShloMosaic.Lib.Tactic.CleanTypes
public import Idealize.ShloMosaic.Lib.Pointwise

@[expose] public section

noncomputable section

namespace Cert.Proof.Ref

open Cert.ReferenceIdeal Cert.ReferenceIdeal.Gen Cert.ReferenceIdeal.Value

open Idealize.ShloMosaic Idealize.ShloMosaic.Routing

/-! ## The operations, put together -/

/-- The logits: tokens times weights, the bias added. -/
def logitsOf (x : S16384x2048.Idx → EReal) (w : S16x2048.Idx → EReal) (b : S16.Idx → EReal) : S16384x16.Idx → EReal :=
  addf (F := Ideal) (φ := .f32) (Host.dotGeneral (F := Ideal) (φ₁ := .f32) (φ₂ := .f32) dot_S16384x2048_S2048x16_S16384x16_1_0_0_1_n_n none x (transpose S2048x16 [1, 0] w transposes_S16x2048_S2048x16_1_0))
    (broadcastInDim S16384x16 ![0, 1] bcast_S1x16_S16384x16_0_1 (broadcastInDim S1x16 ![1] bcast_S16_S1x16_1 b))

/-- Each row's two largest and their positions. -/
def twoOf (X : S16384x16.Idx → EReal) : (S16384x2.Idx → EReal) × IVec S16384x2 32 :=
  Host.topK S16384x2 1 (FloatOps.cmpfTotal (F := Ideal) (φ := .f32) .gt) X sliceFits_S16384x16_S16384x2

/-- Row and column of every entry to be set: rows count up, columns are the positions `I` (negative ones wrapped). -/
def pairsOf (I : IVec S16384x2 32) : IVec S16384x2x2 32 :=
  concatenate S16384x2x2 2 [⟨S16384x2x1, (broadcastInDim S16384x2x1 ![0, 1] bcast_S16384x2_S16384x2x1_0_1 (broadcastInDim S16384x2 ![0, 1] bcast_S16384x1_S16384x2_0_1 (select (cmpi .slt (broadcastInDim S16384x1 ![0] bcast_S16384_S16384x1_0 (iotaInDim S16384 32 0)) (broadcastInDim S16384x1 ![] bcast_S_S16384x1 (constantI S_ 32 0#32))) (addi (broadcastInDim S16384x1 ![0] bcast_S16384_S16384x1_0 (iotaInDim S16384 32 0)) (broadcastInDim S16384x1 ![] bcast_S_S16384x1 (constantI S_ 32 16384#32))) (broadcastInDim S16384x1 ![0] bcast_S16384_S16384x1_0 (iotaInDim S16384 32 0)))))⟩,
    ⟨S16384x2x1, (broadcastInDim S16384x2x1 ![0, 1] bcast_S16384x2_S16384x2x1_0_1 (select (cmpi .slt I (broadcastInDim S16384x2 ![] bcast_S_S16384x2 (constantI S_ 32 0#32))) (addi I (broadcastInDim S16384x2 ![] bcast_S_S16384x2 (constantI S_ 32 16#32))) I))⟩] concatenates_S16384x2x1_S16384x2x1_S16384x2x2_d2

/-- The array of `-∞` with the values `V` set in their places. -/
def sparseOf (V : S16384x2.Idx → EReal) (I : IVec S16384x2 32) : S16384x16.Idx → EReal :=
  Host.scatter scatter_S16384x16_S16384x2x2_S16384x2_n_01_01_2 (fun _ b => b)
    (broadcastInDim S16384x16 ![] bcast_S_S16384x16 (constant (F := Ideal) S_ .f32 0xFF800000#32)) (pairsOf I) V

/-- Each row's greatest entry. -/
def maxOf (Z : S16384x16.Idx → EReal) : S16384.Idx → EReal :=
  maximumf (F := Ideal) (φ := .f32) (broadcastInDim S16384 ![] bcast_S_S16384 (constant (F := Ideal) S_ .f32 0xFF800000#32))
    (Host.reduce (FloatOps.maximumf (F := Ideal) (φ := .f32)) Z (constant (F := Ideal) S_ .f32 0xFF800000#32) reducesTo_S16384x16_S16384_d1 h_S_)

/-- The exponentials of what the entries are less than `M`. -/
def expOf (Z : S16384x16.Idx → EReal) (M : S16384.Idx → EReal) : S16384x16.Idx → EReal :=
  Host.exp (F := Ideal) (φ := .f32) (subf (F := Ideal) (φ := .f32) Z (broadcastInDim S16384x16 ![0, 1] bcast_S16384x1_S16384x16_0_1 (broadcastInDim S16384x1 ![0] bcast_S16384_S16384x1_0 M)))

/-- Each entry over the sum of its row. -/
def overSum (E : S16384x16.Idx → EReal) : S16384x16.Idx → EReal :=
  Host.divf (F := Ideal) (φ := .f32) E (broadcastInDim S16384x16 ![0, 1] bcast_S16384x1_S16384x16_0_1 (broadcastInDim S16384x1 ![0] bcast_S16384_S16384x1_0
    (Host.reduceAdd (F := Ideal) (φ := .f32) E (constant (F := Ideal) S_ .f32 0x00000000#32) reducesTo_S16384x16_S16384_d1 h_S_)))

/-- The whole result from the logits. -/
def softOf (X : S16384x16.Idx → EReal) : S16384x16.Idx → EReal :=
  overSum (expOf (sparseOf (twoOf X).1 (twoOf X).2) (maxOf (sparseOf (twoOf X).1 (twoOf X).2)))

/-- The generated result is that one. -/
theorem res_eq (m : (ℓ : Loc nD τ sig) → Buf (Elt Ideal) ℓ) (c : Dev nD) :
    res_main_v33 m c = softOf (logitsOf (m ((c.tc : Thread nD τ).loc main_arg0)) (m ((c.tc : Thread nD τ).loc main_arg1)) (m ((c.tc : Thread nD τ).loc main_arg2))) := by
  unfold res_main_v33 softOf overSum expOf maxOf sparseOf pairsOf twoOf logitsOf
  rfl

/-! ## Each at an index -/

/-- A logit: the token's dot product with the expert's row of the gate, and the expert's bias. -/
theorem logitsOf_apply (x : S16384x2048.Idx → EReal) (w : S16x2048.Idx → EReal) (b : S16.Idx → EReal) (n : Fin 16384) (e : Fin 16) :
    logitsOf x w b (ix2 n e) = (∑ k : Fin 2048, x (ix2 n k) * w (ix2 e k)) + b (ix1 e) := by
  unfold logitsOf
  pointwise

/-- The word of the constant is `-∞`. -/
theorem negInf : Ideal.ofBits .f32 0xFF800000#32 = ⊥ := by simp [Ideal.ofBits, Ideal.ieee]

/-- A row's greatest entry is the maximum over its sixteen entries. -/
theorem maxOf_apply (Z : S16384x16.Idx → EReal) (n : Fin 16384) : maxOf Z (ix1 n) = Finset.univ.fold max ⊥ fun e : Fin 16 => Z (ix2 n e) := by
  unfold maxOf
  pointwise
  rw [negInf]
  exact max_eq_right bot_le

/-- An exponential is that of the entry less its row's number. -/
theorem expOf_apply (Z : S16384x16.Idx → EReal) (M : S16384.Idx → EReal) (n : Fin 16384) (e : Fin 16) :
    expOf Z M (ix2 n e) = Ideal.exp (Z (ix2 n e) - M (ix1 n)) := by
  unfold expOf
  pointwise

/-- An entry is divided by the sum of its row's sixteen. -/
theorem overSum_apply (E : S16384x16.Idx → EReal) (n : Fin 16384) (e : Fin 16) :
    overSum E (ix2 n e) = Ideal.div (E (ix2 n e)) (∑ e' : Fin 16, E (ix2 n e')) := by
  unfold overSum
  pointwise

/-- The row of a pair is the token's number. -/
theorem pairsOf_row (I : IVec S16384x2 32) (n : Fin 16384) (k : Fin 2) : pairsOf I (ix3 n k 0) = BitVec.ofNat 32 n.val := by
  unfold pairsOf
  pointwise
  exact wrap_of_lt _ _ (by rw [BitVec.toNat_ofNat]; omega)

/-- The column of a pair is the position, where that is not negative. -/
theorem pairsOf_col (I : IVec S16384x2 32) (n : Fin 16384) (k : Fin 2) (hI : (I (ix2 n k)).toNat < 2 ^ 31) : pairsOf I (ix3 n k 1) = I (ix2 n k) := by
  unfold pairsOf
  pointwise
  exact wrap_of_lt _ _ hI

/-- A top-k along the second axis, at an index: the entry at the position that the stable sort puts there, and the position. -/
theorem topK_at {R C N : ℕ} {α : Type} (gt : α → α → BitVec 1) (X : (shape2 R C).Idx → α) (h : (shape2 R C).Slices (fun _ => 0) (shape2 R N)) (n : Fin R) (k : Fin N)
    (k' : Fin C) (hk : k'.val = k.val) :
    (Host.topK (shape2 R N) 1 gt X h).1 (ix2 n k) = X (ix2 n (sortedFrom (fun i j => gt (X (ix2 n i)) (X (ix2 n j)) == 1#1) k'))
      ∧ (Host.topK (shape2 R N) 1 gt X h).2 (ix2 n k) = BitVec.ofNat 32 (sortedFrom (fun i j => gt (X (ix2 n i)) (X (ix2 n j)) == 1#1) k').val := by
  have along : ∀ i : Fin C, (ix2 n k' : (shape2 R C).Idx).along 1 i = ix2 n i := fun i => by
    funext a
    match a with
    | ⟨0, _⟩ => rfl
    | ⟨1, _⟩ => rfl
  have at' : ∀ a : Fin (shape2 R C).rank, ((ix2 n k' : (shape2 R C).Idx) a).val = 0 + ((ix2 n k : (shape2 R N).Idx) (a.cast h.1.symm)).val := fun a => by
    match a with
    | ⟨0, _⟩ => exact (Nat.zero_add _).symm
    | ⟨1, _⟩ => exact hk.trans (Nat.zero_add _).symm
  unfold Host.topK
  dsimp only
  rw [extractStridedSlice_apply _ _ h _ _ at', extractStridedSlice_apply _ _ h _ _ at']
  unfold Host.sort2
  dsimp only
  rw [dif_pos (by exact Nat.one_lt_two)]
  dsimp only
  have e : ∀ i : Fin ((shape2 R C).size ⟨1, Nat.one_lt_two⟩), (ix2 n k' : (shape2 R C).Idx).along ⟨1, Nat.one_lt_two⟩ i = ix2 n i := along
  simp only [e]
  exact ⟨rfl, rfl⟩

/-- The two largest of a row, by what makes them the two largest. -/
theorem twoOf_row (X : S16384x16.Idx → EReal) (n : Fin 16384) {a b : Fin 16} (h : Two (fun e => X (ix2 n e)) 0 16 a b) :
    ((twoOf X).1 (ix2 n 0) = X (ix2 n a) ∧ (twoOf X).1 (ix2 n 1) = X (ix2 n b))
      ∧ ((twoOf X).2 (ix2 n 0) = BitVec.ofNat 32 a.val ∧ (twoOf X).2 (ix2 n 1) = BitVec.ofNat 32 b.val) := by
  have s := sortedFrom_two h (fun i j => FloatOps.cmpfTotal (F := Ideal) (φ := .f32) .gt (X (ix2 n i)) (X (ix2 n j)) == 1#1) (fun i j => by
    change (BitVec.ofBool (decide (X (ix2 n j) < X (ix2 n i))) == 1#1) = decide (X (ix2 n j) < X (ix2 n i))
    cases decide (X (ix2 n j) < X (ix2 n i)) <;> rfl)
  have t0 := topK_at (FloatOps.cmpfTotal (F := Ideal) (φ := .f32) .gt) X sliceFits_S16384x16_S16384x2 n (0 : Fin 2) (0 : Fin 16) rfl
  have t1 := topK_at (FloatOps.cmpfTotal (F := Ideal) (φ := .f32) .gt) X sliceFits_S16384x16_S16384x2 n (1 : Fin 2) (1 : Fin 16) rfl
  rw [s.1] at t0
  rw [s.2] at t1
  exact ⟨⟨t0.1, t1.1⟩, ⟨t0.2, t1.2⟩⟩

/-- A row of the array with the two entries set. -/
theorem sparseOf_row (V : S16384x2.Idx → EReal) (I : IVec S16384x2 32) (n : Fin 16384) {a b : Fin 16} (hab : a ≠ b)
    (h0 : I (ix2 n 0) = BitVec.ofNat 32 a.val) (h1 : I (ix2 n 1) = BitVec.ofNat 32 b.val) (e : Fin 16) :
    sparseOf V I (ix2 n e) = if e = a then V (ix2 n 0) else if e = b then V (ix2 n 1) else ⊥ := by
  have small : ∀ v : ℕ, v < 16384 → (BitVec.ofNat 32 v).toInt = v := fun v hv => by
    rw [BitVec.toInt_eq_toNat_of_lt] <;> rw [BitVec.toNat_ofNat] <;> omega
  have c0 : (pairsOf I (ix3 n 0 1)).toInt = a.val := by
    rw [pairsOf_col I n 0 (by rw [h0, BitVec.toNat_ofNat]; omega), h0, small _ (by omega)]
  have c1 : (pairsOf I (ix3 n 1 1)).toInt = b.val := by
    rw [pairsOf_col I n 1 (by rw [h1, BitVec.toNat_ofNat]; omega), h1, small _ (by omega)]
  have lands : ∀ (n' : Fin 16384) (k : Fin 2), scatter_S16384x16_S16384x2x2_S16384x2_n_01_01_2.resultIdx? (ValueIdx.ix2 n' k) (pairsOf I) = some (ValueIdx.ix2 n e)
      ↔ n' = n ∧ (pairsOf I (ix3 n' k 1)).toInt = e.val := fun n' k => by
    rw [scatter_lands2 _ rfl rfl rfl]
    rw [← ix3_eq_valueIdx, ← ix3_eq_valueIdx, pairsOf_row, small _ n'.isLt]
    exact and_congr_left' ⟨fun q => Fin.ext (by exact_mod_cast q), fun q => by rw [q]⟩
  have cell : ∀ k : S16384x2.Idx, ∃ (n' : Fin 16384) (j : Fin 2), k = ValueIdx.ix2 n' j := fun k => ⟨k 0, k 1, by
    funext q
    match q with
    | ⟨0, _⟩ => rfl
    | ⟨1, _⟩ => rfl⟩
  have two : ∀ j : Fin 2, j = 0 ∨ j = 1 := by decide
  unfold sparseOf
  by_cases ha : e = a
  · subst ha
    rw [if_pos rfl, ix2_eq_valueIdx n e]
    refine scatter_set_hit _ _ _ _ _ _ (fun k hk => ?_) (ValueIdx.ix2 n 0) ((lands n 0).2 ⟨rfl, c0⟩)
    obtain ⟨n', j, rfl⟩ := cell k
    obtain ⟨rfl, hc⟩ := (lands n' j).1 hk
    rcases two j with rfl | rfl
    · rw [ix2_eq_valueIdx]
    · rw [c1] at hc
      exact absurd (Fin.ext (by exact_mod_cast hc)).symm hab
  rw [if_neg ha]
  by_cases hb : e = b
  · subst hb
    rw [if_pos rfl, ix2_eq_valueIdx n e]
    refine scatter_set_hit _ _ _ _ _ _ (fun k hk => ?_) (ValueIdx.ix2 n 1) ((lands n 1).2 ⟨rfl, c1⟩)
    obtain ⟨n', j, rfl⟩ := cell k
    obtain ⟨rfl, hc⟩ := (lands n' j).1 hk
    rcases two j with rfl | rfl
    · rw [c0] at hc
      exact absurd (Fin.ext (by exact_mod_cast hc)) hab
    · rw [ix2_eq_valueIdx]
  rw [if_neg hb, ix2_eq_valueIdx n e, scatter_set_miss _ _ _ _ _ (fun k hk => ?_)]
  · exact negInf
  obtain ⟨n', j, rfl⟩ := cell k
  obtain ⟨rfl, hc⟩ := (lands n' j).1 hk
  rcases two j with rfl | rfl
  · rw [c0] at hc
    exact ha (Fin.ext (by exact_mod_cast hc)).symm
  · rw [c1] at hc
    exact hb (Fin.ext (by exact_mod_cast hc)).symm

end Cert.Proof.Ref

end
-- ==== Proof.Rows.lean ====
/- A row of the reference is a row of the kernel, where the logits are real numbers. -/
module

public import proofs.«01_k».proof.Proof.Reference
public import proofs.«01_k».proof.Proof.Best
public import Idealize.ShloMosaic.Lib.IdealHost

@[expose] public section

noncomputable section

namespace Cert.Proof.Ref

open Cert.ReferenceIdeal Cert.ReferenceIdeal.Gen

open Idealize.ShloMosaic

/-- The constant is one. -/
theorem one_val : oneF (F := Ideal) = (1 : EReal) := Ideal.ofBits_one_f32

/-- The constant is zero. -/
theorem zero_val : zeroF (F := Ideal) = (0 : EReal) := by
  change Ideal.ofBits .f32 0#32 = 0
  simp [Ideal.ofBits, Ideal.ieee]

/-- The words of two lane numbers are equal when the numbers are. -/
theorem lane_eq (a e : Fin 16) : Idealize.ShloMosaic.IntOp.cmpi .eq (BitVec.ofNat 32 a.val) (BitVec.ofNat 32 e.val) = BitVec.ofBool (decide (e = a)) := by
  revert a e
  decide

/-- The first share, for real numbers. -/
theorem share1 (d : ℝ) : Ideal.div (1 : EReal) (1 + Ideal.exp (d : EReal)) = ((1 + Real.exp d)⁻¹ : ℝ) := by
  have p : 0 < 1 + Real.exp d := by positivity
  have s : (1 : EReal) + Ideal.exp (d : EReal) = ((1 + Real.exp d : ℝ) : EReal) := by
    rw [EReal.coe_add]
    rfl
  rw [s, Ideal.div, if_neg (by exact_mod_cast p.ne'), one_mul, EReal.coe_inv]

/-- The second share, for real numbers. -/
theorem share2 (d : ℝ) : Ideal.div (Ideal.exp (d : EReal)) (1 + Ideal.exp (d : EReal)) = 1 - (((1 + Real.exp d)⁻¹ : ℝ) : EReal) := by
  have p : 0 < 1 + Real.exp d := by positivity
  have s : (1 : EReal) + Ideal.exp (d : EReal) = ((1 + Real.exp d : ℝ) : EReal) := by
    rw [EReal.coe_add]
    rfl
  rw [s, Ideal.div, if_neg (by exact_mod_cast p.ne')]
  change ((Real.exp d : ℝ) : EReal) * _ = _
  rw [← EReal.coe_inv, ← EReal.coe_mul, ← EReal.coe_one, ← EReal.coe_sub]
  congr 1
  field_simp
  ring

/-- Nothing over the sum is nothing. -/
theorem share0 (d : ℝ) : Ideal.div (0 : EReal) (1 + Ideal.exp (d : EReal)) = 0 := by
  have p : 0 < 1 + Real.exp d := by positivity
  have s : (1 : EReal) + Ideal.exp (d : EReal) = ((1 + Real.exp d : ℝ) : EReal) := by
    rw [EReal.coe_add]
    rfl
  rw [s, Ideal.div, if_neg (by exact_mod_cast p.ne'), zero_mul]

/-- A row of the reference's first result: the shares of the two largest in their places, zero elsewhere. -/
theorem softOf_row (X : S16384x16.Idx → EReal) (n : Fin 16384) (y : Fin 16 → ℝ) (hy : ∀ e, X (ix2 n e) = (y e : EReal)) (e : Fin 16) :
    softOf X (ix2 n e) = entry (F := Ideal) (top fun e => X (ix2 n e)) (BitVec.ofNat 32 e.val) := by
  obtain ⟨a, b, h, t⟩ := best_top (fun e => X (ix2 n e))
  have hab : a ≠ b := h.ab.ne
  have r := twoOf_row X n h
  have z : ∀ e, sparseOf (twoOf X).1 (twoOf X).2 (ix2 n e) = if e = a then (y a : EReal) else if e = b then (y b : EReal) else ⊥ := fun e => by
    rw [sparseOf_row _ _ n hab r.2.1 r.2.2, r.1.1, r.1.2, hy, hy]
  have le : (y b : EReal) ≤ y a := by
    rw [← hy, ← hy]
    exact h.ab.le
  have mx : maxOf (sparseOf (twoOf X).1 (twoOf X).2) (ix1 n) = (y a : EReal) := by
    rw [maxOf_apply]
    refine le_antisymm ((Finset.fold_max_le _).2 ⟨bot_le, fun e _ => ?_⟩) ((Finset.le_fold_max _).2 (Or.inr ⟨a, Finset.mem_univ _, ?_⟩))
    · rw [z]
      split
      · exact le_rfl
      split
      · exact le
      · exact bot_le
    · rw [z, if_pos rfl]
  have ex : ∀ e, expOf (sparseOf (twoOf X).1 (twoOf X).2) (maxOf (sparseOf (twoOf X).1 (twoOf X).2)) (ix2 n e)
      = if e = a then 1 else if e = b then Ideal.exp ((y b - y a : ℝ) : EReal) else 0 := fun e => by
    rw [expOf_apply, mx, z]
    split
    · rw [← EReal.coe_sub, sub_self]
      change ((Real.exp 0 : ℝ) : EReal) = 1
      rw [Real.exp_zero]
      rfl
    split
    · rw [EReal.coe_sub]
    · rw [EReal.bot_sub]
      rfl
  have sm : ∑ e, expOf (sparseOf (twoOf X).1 (twoOf X).2) (maxOf (sparseOf (twoOf X).1 (twoOf X).2)) (ix2 n e) = 1 + Ideal.exp ((y b - y a : ℝ) : EReal) := by
    rw [Finset.sum_eq_add a b hab (fun e _ q => by rw [ex, if_neg q.1, if_neg q.2]) (fun q => (q (Finset.mem_univ _)).elim) (fun q => (q (Finset.mem_univ _)).elim), ex, ex, if_pos rfl,
      if_neg hab.symm, if_pos rfl]
  have p1 : prob1 (F := Ideal) (top fun e => X (ix2 n e)) = (((1 + Real.exp (y b - y a))⁻¹ : ℝ) : EReal) := by
    unfold prob1
    rw [one_val, t.m1, t.m2, hy, hy]
    rw [← share1, EReal.coe_sub]
    rfl
  have p2 : prob2 (F := Ideal) (top fun e => X (ix2 n e)) = (1 : EReal) - (((1 + Real.exp (y b - y a))⁻¹ : ℝ) : EReal) := by
    unfold prob2
    rw [one_val, p1]
    rfl
  unfold softOf entry
  rw [overSum_apply, sm, ex, p1, p2, t.i1, t.i2, lane_eq, lane_eq, zero_val]
  by_cases ha : e = a
  · rw [if_pos ha, share1, decide_eq_true ha]
    rfl
  rw [if_neg ha, decide_eq_false ha]
  by_cases hb : e = b
  · rw [if_pos hb, share2, decide_eq_true hb]
    rfl
  · rw [if_neg hb, share0, decide_eq_false hb]
    rfl

/-- A row of the reference's second result: the positions of the two largest. -/
theorem pickOf_row (X : S16384x16.Idx → EReal) (n : Fin 16384) (k : Fin 2) :
    (twoOf X).2 (ix2 n k) = pick (top (F := Ideal) fun e => X (ix2 n e)) k.val := by
  obtain ⟨a, b, h, t⟩ := best_top (fun e => X (ix2 n e))
  have r := (twoOf_row X n h).2
  have two : k = 0 ∨ k = 1 := by revert k; decide
  rcases two with rfl | rfl
  · exact r.1.trans t.i1.symm
  · exact r.2.trans t.i2.symm

end Cert.Proof.Ref

end
-- ==== Proof.Finite.lean ====
/- The precondition, read: every element of the three arrays is a real number. -/
module

public import proofs.«01_k».proof.Defs
public import Idealize.ShloMosaic.Lib.ReduceAll
public import Idealize.ShloMosaic.Lib.IdealHost
public import Idealize.ShloMosaic.Lib.Pointwise

@[expose] public section

noncomputable section

namespace Cert.Proof

open Idealize.ShloMosaic

/-- The shape facts that the precondition states. -/
theorem finiteFacts : Cert.Pre_finite.Facts where
  bcast_S_S16384x2048 := by decide
  reducesTo_S16384x2048_S_d0_1 := by decide
  h_S_ := by decide
  bcast_S_S16x2048 := by decide
  reducesTo_S16x2048_S_d0_1 := by decide
  bcast_S_S16 := by decide
  reducesTo_S16_S_d0 := by decide

/-- An extended real whose absolute value compares less than infinity is a real number. -/
theorem real_of_abs_lt (x : EReal) (h : FloatOps.cmpf (F := Ideal) (φ := .f32) .olt (FloatOps.absf (F := Ideal) (φ := .f32) x) (Ideal.ofBits .f32 0x7F800000#32) = 1#1) : ∃ r : ℝ, x = r := by
  have top : Ideal.ofBits .f32 0x7F800000#32 = ⊤ := by simp [Ideal.ofBits, Ideal.ieee]
  rw [top] at h
  induction x with
  | bot =>
    have e : FloatOps.absf (F := Ideal) (φ := .f32) (⊥ : EReal) = (⊤ : EReal) := by simp [FloatOps.absf]
    rw [e] at h
    exact absurd h (by simp [FloatOps.cmpf, Ideal.cmp])
  | top =>
    have e : FloatOps.absf (F := Ideal) (φ := .f32) (⊤ : EReal) = (⊤ : EReal) := by simp [FloatOps.absf]
    rw [e] at h
    exact absurd h (by simp [FloatOps.cmpf, Ideal.cmp])
  | coe r => exact ⟨r, rfl⟩

/-- Under the precondition every element of the three arrays is a real number. -/
theorem finite_real (x : FVec Ideal Cert.Pre_finite.S16384x2048 .f32) (w : FVec Ideal Cert.Pre_finite.S16x2048 .f32) (b : FVec Ideal Cert.Pre_finite.S16 .f32)
    (h : @Cert.Pre_finite.fn finiteFacts Ideal _ x w b = fun _ => 1#1) :
    (∀ i, ∃ r : ℝ, x i = r) ∧ (∀ i, ∃ r : ℝ, w i = r) ∧ (∀ i, ∃ r : ℝ, b i = r) := by
  have : Subsingleton Cert.Pre_finite.S_.Idx := ⟨fun i j => funext fun a => a.elim0⟩
  have h0 := congrFun h (fun a => a.elim0 : Cert.Pre_finite.S_.Idx)
  dsimp only [Cert.Pre_finite.fn] at h0
  obtain ⟨h1, hb⟩ := IntOp.andi_eq_one.1 h0
  obtain ⟨hx, hw⟩ := IntOp.andi_eq_one.1 h1
  exact ⟨fun i => real_of_abs_lt _ (Host.reduce_andi_all _ _ _ _ _ hx i), fun i => real_of_abs_lt _ (Host.reduce_andi_all _ _ _ _ _ hw i),
    fun i => real_of_abs_lt _ (Host.reduce_andi_all _ _ _ _ _ hb i)⟩

end Cert.Proof

end
-- ==== Proof.Algebra.lean ====
/- The value claim: the kernel and the reference, over the extended reals and on finite arguments, leave the same two
   results. -/
module

public import proofs.«01_k».proof.Proof.Frames
public import proofs.«01_k».proof.Proof.GateValue
public import proofs.«01_k».proof.Proof.Rows
public import proofs.«01_k».proof.Proof.Finite

@[expose] public section

noncomputable section

namespace Cert.Proof

open Idealize.ShloMosaic Idealize.ShloMosaic.TcCoe Idealize.SL.Sem

/-! ## The logits are the same -/

section Logits

open Cert.KernelIdeal

variable (m : (ℓ : Loc nD τ sig) → Buf (Elt Ideal) ℓ) (c : Dev nD)

/-- The three arguments as launched: the tokens, the gate matrix, the bias. -/
abbrev argX : S16384x2048.Idx → EReal := m (xLoc c)
abbrev argW : S16x2048.Idx → EReal := m (wLoc c)
abbrev argB : S16.Idx → EReal := m (bLoc c)

/-- The reference's logits of them. -/
abbrev refLogits : S16384x16.Idx → EReal := Ref.logitsOf (argX m c) (argW m c) (argB m c)

/-- A token's sixteen logits, as the kernel has them, are the reference's. -/
theorem logits_same (n : Fin 16384) :
    logits (F := Ideal) (lgt m c) (m (bLoc c)) (wOf n) (jOf n) = fun e => refLogits m c (ix2 n e) := by
  funext e
  unfold logits
  rw [lgt_at, ← ix3_eq_valueIdx, ← ix1_eq_valueIdx]
  refine Eq.trans ?_ (Ref.logitsOf_apply (argX m c) (argW m c) (argB m c) n e).symm
  rw [dots_eq (P := 32) (N := 16384) rfl (argW m c) (argX m c) (ix3 (wOf n) e (jOf n)) e n rfl (by change 512 * (n.val / 512) + n.val % 512 = n.val; omega)]
  exact congrArg (· + argB m c (ix1 e)) (Finset.sum_congr rfl fun k _ => mul_comm _ _)

/-- They are real numbers where the arguments' elements are. -/
theorem logits_real (hx : ∀ i, ∃ r : ℝ, argX m c i = r) (hw : ∀ i, ∃ r : ℝ, argW m c i = r) (hb : ∀ i, ∃ r : ℝ, argB m c i = r) (n : Fin 16384) (e : Fin 16) :
    ∃ r : ℝ, refLogits m c (ix2 n e) = r := by
  have s : ∃ r : ℝ, ∑ k : Fin 2048, argX m c (ix2 n k) * argW m c (ix2 e k) = r := by
    refine Finset.sum_induction _ (fun v : EReal => ∃ r : ℝ, v = r) ?_ ⟨0, rfl⟩ fun k _ => ?_
    · rintro _ _ ⟨a, rfl⟩ ⟨b, rfl⟩
      exact ⟨a + b, (EReal.coe_add a b).symm⟩
    · obtain ⟨a, ha⟩ := hx (ix2 n k)
      obtain ⟨b, hb⟩ := hw (ix2 e k)
      exact ⟨a * b, by rw [ha, hb, EReal.coe_mul]⟩
  obtain ⟨a, ha⟩ := s
  obtain ⟨b, hb⟩ := hb (ix1 e)
  exact ⟨a + b, (Ref.logitsOf_apply (argX m c) (argW m c) (argB m c) n e).trans (by rw [ha, hb, EReal.coe_add])⟩

/-! ## The results are the same -/

/-- The first result. -/
theorem out_same (hx : ∀ i, ∃ r : ℝ, argX m c i = r) (hw : ∀ i, ∃ r : ℝ, argW m c i = r) (hb : ∀ i, ∃ r : ℝ, argB m c i = r) :
    outV (F := Ideal) m c = Ref.softOf (refLogits m c) := by
  funext i
  obtain ⟨n, e, rfl⟩ : ∃ (n : Fin 16384) (e : Fin 16), i = ix2 n e := ⟨_, _, eq_ix2 i⟩
  choose y hy using fun e => logits_real m c hx hw hb n e
  refine Eq.trans ?_ (Ref.softOf_row (refLogits m c) n y hy e).symm
  rw [← logits_same]
  unfold outV outT
  pointwise
  rfl

/-- The second result. -/
theorem idx_same : idxV (F := Ideal) m c = (Ref.twoOf (refLogits m c)).2 := by
  funext i
  obtain ⟨n, k, rfl⟩ : ∃ (n : Fin 16384) (k : Fin 2), i = ix2 n k := ⟨_, _, eq_ix2 i⟩
  refine Eq.trans ?_ (Ref.pickOf_row (refLogits m c) n k).symm
  rw [← logits_same]
  unfold idxV idxT
  pointwise
  rfl

end Logits

/-- On finite arguments the kernel and the reference leave the same two results. -/
theorem sameResults : Cert.algebraic_KernelIdeal_ReferenceIdeal_pre_finite (hKernelIdeal := Cert.KernelIdeal.Gen.facts) (hReferenceIdeal := Cert.ReferenceIdeal.Gen.facts)
    (hPre_finite := finiteFacts) := fun m g m' g' hm hmm => by
  refine ⟨fun c => outV m c, fun c => idxV m c, ?_, ?_⟩
  · exact (θ_run Cert.KernelIdeal.defs _ _).mono (fun r h c => ⟨(h.1 c).2.2.2.1, (h.1 c).2.2.2.2, (h.1 c).1, (h.1 c).2.1, (h.1 c).2.2.1⟩) (run_main (F := Ideal) m g)
  · refine (θ_run Cert.ReferenceIdeal.defs _ _).mono (fun r h c => ⟨(h c).1.trans ?_, (h c).2.1.trans ?_, (h c).2.2⟩) (Cert.ReferenceIdeal.Value.run (F := Ideal) m' g')
    · obtain ⟨hx, hw, hb⟩ := finite_real _ _ _ (hm c)
      refine (Ref.res_eq m' c).trans (Eq.trans ?_ (out_same m c hx hw hb).symm)
      rw [(hmm c).1, (hmm c).2.1, (hmm c).2.2]
    · refine Eq.trans ?_ (idx_same m c).symm
      rw [(hmm c).1, (hmm c).2.1, (hmm c).2.2]
      rfl

end Cert.Proof

end
-- ==== Proof.lean ====
module

public import proofs.«01_k».proof.Proof.Algebra

@[expose] public section

noncomputable section

namespace Cert.Proof

/-- Everything the certificate claims. -/
theorem claim : Cert.Claim :=
  ⟨Cert.Kernel.Gen.facts, Cert.KernelIdeal.Gen.facts, Cert.ReferenceIdeal.Gen.facts, finiteFacts, frameBits, frameIdeal, fun m g _ => frameIdeal m g trivial,
    frameReference, fun m g _ => frameReference m g trivial, trivial, sameResults⟩

end Cert.Proof

end
